-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 4096]⟩ ⟨3, ![8, 512, 4096]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![512, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x4096 : Shape := ⟨3, ![1, 512, 4096]⟩
abbrev S512x512 : Shape := ⟨2, ![512, 512]⟩
abbrev S8x2x128x512 : Shape := ⟨4, ![8, 2, 128, 512]⟩
abbrev S7x2 : Shape := ⟨2, ![7, 2]⟩
abbrev S_ : Shape := ⟨0, ![]⟩
abbrev S1x128x512 : Shape := ⟨3, ![1, 128, 512]⟩
abbrev S128x512 : Shape := ⟨2, ![128, 512]⟩
abbrev S1x1x128x512 : Shape := ⟨4, ![1, 1, 128, 512]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S1x512x4096, .f32⟩
  | .hbm, ⟨1, _⟩ => ⟨S512x512, .f32⟩
  | .local _ .vmem, ⟨0, _⟩ => ⟨S1x512x4096, .f32⟩
  | .local _ .vmem, ⟨1, _⟩ => ⟨S512x512, .f32⟩
  | .local _ .vmem, ⟨2, _⟩ => ⟨S8x2x128x512, .f32⟩
  | .local _ .vmem, ⟨3, _⟩ => ⟨S8x2x128x512, .f32⟩
  | _, _ => ⟨S1x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c_m1_i32 : BitVec 32) : Fin 3 → Nat :=
  let c0 : Index := 0#32
  let c0_27 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v31 : BitVec 32 := Scalar.addi v2 c16_i32
  let c2_i32_20 : BitVec 32 := 2#32
  let v32 : BitVec 32 := Scalar.subi v31 c2_i32_20
  let v33 : BitVec 32 := Scalar.subi v32 c_m1_i32
  let c8_i32_21 : BitVec 32 := 8#32
  let c0_i32_22 : BitVec 32 := 0#32
  let v34 : BitVec 1 := Scalar.cmpi .eq c8_i32_21 c0_i32_22
  let c1_i32_23 : BitVec 32 := 1#32
  let v35 : BitVec 32 := Scalar.select v34 c1_i32_23 c8_i32_21
  let v36 : BitVec 32 := Scalar.remsi v33 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c512_i32 : BitVec 32 := 512#32
  let v44 : BitVec 32 := Scalar.muli v43 c512_i32
  let v45 : Index := Scalar.indexCast v44
  ![0, 0, v45.toNat]
def k0_off1_at (r : Fin 8) : BitVec 32 :=
  if r.val < 4 then
    if r.val < 2 then
      if r.val < 1 then
        4294967295#32
      else
        0#32
    else
      if r.val < 3 then
        1#32
      else
        2#32
  else
    if r.val < 6 then
      if r.val < 5 then
        3#32
      else
        4#32
    else
      if r.val < 7 then
        5#32
      else
        6#32
def k0_off2 (d0 : Dev nD) (c_m1_i32_33 : BitVec 32) : Fin 3 → Nat :=
  let c0_41 : Index := 0#32
  let c256 : Index := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_32 : BitVec 32 := 2#32
  let v51 : BitVec 32 := Scalar.addi v2 c2_i32_32
  let v52 : BitVec 32 := Scalar.addi v51 c_m1_i32_33
  let c8_i32_34 : BitVec 32 := 8#32
  let c0_i32_35 : BitVec 32 := 0#32
  let v53 : BitVec 1 := Scalar.cmpi .eq c8_i32_34 c0_i32_35
  let c1_i32_36 : BitVec 32 := 1#32
  let v54 : BitVec 32 := Scalar.select v53 c1_i32_36 c8_i32_34
  let v55 : BitVec 32 := Scalar.remsi v52 v54
  let c0_i32_38 : BitVec 32 := 0#32
  let v57 : BitVec 1 := Scalar.cmpi .slt v55 c0_i32_38
  let c0_i32_39 : BitVec 32 := 0#32
  let v58 : BitVec 1 := Scalar.cmpi .slt v54 c0_i32_39
  let v59 : BitVec 1 := Scalar.xori v57 v58
  let c0_i32_37 : BitVec 32 := 0#32
  let v56 : BitVec 1 := Scalar.cmpi .ne v55 c0_i32_37
  let v60 : BitVec 1 := Scalar.andi v59 v56
  let v61 : BitVec 32 := Scalar.addi v55 v54
  let v62 : BitVec 32 := Scalar.select v60 v61 v55
  let c512_i32_40 : BitVec 32 := 512#32
  let v63 : BitVec 32 := Scalar.muli v62 c512_i32_40
  let v64 : Index := Scalar.indexCast v63
  ![0, 256, v64.toNat]
def k0_off2_at (r : Fin 8) : BitVec 32 :=
  if r.val < 4 then
    if r.val < 2 then
      if r.val < 1 then
        4294967295#32
      else
        0#32
    else
      if r.val < 3 then
        1#32
      else
        2#32
  else
    if r.val < 6 then
      if r.val < 5 then
        3#32
      else
        4#32
    else
      if r.val < 7 then
        5#32
      else
        6#32
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_54 : BitVec 32 := 1#32
  let v70 : BitVec 32 := Scalar.muli v25 c1_i32_54
  let v71 : BitVec 32 := Scalar.addi c0_i32_55 v70
  v71.toNat
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_68 : BitVec 32 := 1#32
  let v80 : BitVec 32 := Scalar.muli v14 c1_i32_68
  let v81 : BitVec 32 := Scalar.addi c0_i32_69 v80
  v81.toNat
def k0_off3 (d0 : Dev nD) (c_m1_i32_76 : BitVec 32) : Fin 3 → Nat :=
  let c0_84 : Index := 0#32
  let c128 : Index := 128#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_74 : BitVec 32 := 16#32
  let v90 : BitVec 32 := Scalar.addi v2 c16_i32_74
  let c2_i32_75 : BitVec 32 := 2#32
  let v91 : BitVec 32 := Scalar.subi v90 c2_i32_75
  let v92 : BitVec 32 := Scalar.subi v91 c_m1_i32_76
  let c8_i32_77 : BitVec 32 := 8#32
  let c0_i32_78 : BitVec 32 := 0#32
  let v93 : BitVec 1 := Scalar.cmpi .eq c8_i32_77 c0_i32_78
  let c1_i32_79 : BitVec 32 := 1#32
  let v94 : BitVec 32 := Scalar.select v93 c1_i32_79 c8_i32_77
  let v95 : BitVec 32 := Scalar.remsi v92 v94
  let c0_i32_81 : BitVec 32 := 0#32
  let v97 : BitVec 1 := Scalar.cmpi .slt v95 c0_i32_81
  let c0_i32_82 : BitVec 32 := 0#32
  let v98 : BitVec 1 := Scalar.cmpi .slt v94 c0_i32_82
  let v99 : BitVec 1 := Scalar.xori v97 v98
  let c0_i32_80 : BitVec 32 := 0#32
  let v96 : BitVec 1 := Scalar.cmpi .ne v95 c0_i32_80
  let v100 : BitVec 1 := Scalar.andi v99 v96
  let v101 : BitVec 32 := Scalar.addi v95 v94
  let v102 : BitVec 32 := Scalar.select v100 v101 v95
  let c512_i32_83 : BitVec 32 := 512#32
  let v103 : BitVec 32 := Scalar.muli v102 c512_i32_83
  let v104 : Index := Scalar.indexCast v103
  ![0, 128, v104.toNat]
def k0_off3_at (r : Fin 8) : BitVec 32 :=
  if r.val < 4 then
    if r.val < 2 then
      if r.val < 1 then
        4294967295#32
      else
        0#32
    else
      if r.val < 3 then
        1#32
      else
        2#32
  else
    if r.val < 6 then
      if r.val < 5 then
        3#32
      else
        4#32
    else
      if r.val < 7 then
        5#32
      else
        6#32
def k0_off4 (d0 : Dev nD) (c_m1_i32_89 : BitVec 32) : Fin 3 → Nat :=
  let c0_97 : Index := 0#32
  let c384 : Index := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_88 : BitVec 32 := 2#32
  let v110 : BitVec 32 := Scalar.addi v2 c2_i32_88
  let v111 : BitVec 32 := Scalar.addi v110 c_m1_i32_89
  let c8_i32_90 : BitVec 32 := 8#32
  let c0_i32_91 : BitVec 32 := 0#32
  let v112 : BitVec 1 := Scalar.cmpi .eq c8_i32_90 c0_i32_91
  let c1_i32_92 : BitVec 32 := 1#32
  let v113 : BitVec 32 := Scalar.select v112 c1_i32_92 c8_i32_90
  let v114 : BitVec 32 := Scalar.remsi v111 v113
  let c0_i32_94 : BitVec 32 := 0#32
  let v116 : BitVec 1 := Scalar.cmpi .slt v114 c0_i32_94
  let c0_i32_95 : BitVec 32 := 0#32
  let v117 : BitVec 1 := Scalar.cmpi .slt v113 c0_i32_95
  let v118 : BitVec 1 := Scalar.xori v116 v117
  let c0_i32_93 : BitVec 32 := 0#32
  let v115 : BitVec 1 := Scalar.cmpi .ne v114 c0_i32_93
  let v119 : BitVec 1 := Scalar.andi v118 v115
  let v120 : BitVec 32 := Scalar.addi v114 v113
  let v121 : BitVec 32 := Scalar.select v119 v120 v114
  let c512_i32_96 : BitVec 32 := 512#32
  let v122 : BitVec 32 := Scalar.muli v121 c512_i32_96
  let v123 : Index := Scalar.indexCast v122
  ![0, 384, v123.toNat]
def k0_off4_at (r : Fin 8) : BitVec 32 :=
  if r.val < 4 then
    if r.val < 2 then
      if r.val < 1 then
        4294967295#32
      else
        0#32
    else
      if r.val < 3 then
        1#32
      else
        2#32
  else
    if r.val < 6 then
      if r.val < 5 then
        3#32
      else
        4#32
    else
      if r.val < 7 then
        5#32
      else
        6#32
def k0_dev5 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_110 : BitVec 32 := 1#32
  let v129 : BitVec 32 := Scalar.muli v25 c1_i32_110
  let v130 : BitVec 32 := Scalar.addi c0_i32_111 v129
  v130.toNat
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_124 : BitVec 32 := 1#32
  let v139 : BitVec 32 := Scalar.muli v14 c1_i32_124
  let v140 : BitVec 32 := Scalar.addi c0_i32_125 v139
  v140.toNat
def k0_dev7 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_172 : BitVec 32 := 1#32
  let v180 : BitVec 32 := Scalar.muli v25 c1_i32_172
  let v181 : BitVec 32 := Scalar.addi c0_i32_173 v180
  v181.toNat
def k0_dev8 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_219 : BitVec 32 := 1#32
  let v220 : BitVec 32 := Scalar.muli v14 c1_i32_219
  let v221 : BitVec 32 := Scalar.addi c0_i32_220 v220
  v221.toNat
def k0_dev9 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_267 : BitVec 32 := 1#32
  let v261 : BitVec 32 := Scalar.muli v25 c1_i32_267
  let v262 : BitVec 32 := Scalar.addi c0_i32_268 v261
  v262.toNat
def k0_dev10 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_314 : BitVec 32 := 1#32
  let v301 : BitVec 32 := Scalar.muli v14 c1_i32_314
  let v302 : BitVec 32 := Scalar.addi c0_i32_315 v301
  v302.toNat
def k0_dev11 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_360 : BitVec 32 := 1#32
  let v342 : BitVec 32 := Scalar.muli v25 c1_i32_360
  let v343 : BitVec 32 := Scalar.addi c0_i32_361 v342
  v343.toNat
def k0_dev12 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_407 : BitVec 32 := 1#32
  let v382 : BitVec 32 := Scalar.muli v14 c1_i32_407
  let v383 : BitVec 32 := Scalar.addi c0_i32_408 v382
  v383.toNat
def k0_dev13 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_455 : BitVec 32 := 1#32
  let v423 : BitVec 32 := Scalar.muli v25 c1_i32_455
  let v424 : BitVec 32 := Scalar.addi c0_i32_456 v423
  v424.toNat
def k0_dev14 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_502 : BitVec 32 := 1#32
  let v463 : BitVec 32 := Scalar.muli v14 c1_i32_502
  let v464 : BitVec 32 := Scalar.addi c0_i32_503 v463
  v464.toNat
def k0_dev15 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_548 : BitVec 32 := 1#32
  let v504 : BitVec 32 := Scalar.muli v25 c1_i32_548
  let v505 : BitVec 32 := Scalar.addi c0_i32_549 v504
  v505.toNat
def k0_dev16 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_595 : BitVec 32 := 1#32
  let v544 : BitVec 32 := Scalar.muli v14 c1_i32_595
  let v545 : BitVec 32 := Scalar.addi c0_i32_596 v544
  v545.toNat
def k0_dev17 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_643 : BitVec 32 := 1#32
  let v585 : BitVec 32 := Scalar.muli v25 c1_i32_643
  let v586 : BitVec 32 := Scalar.addi c0_i32_644 v585
  v586.toNat
def k0_dev18 (d0 : Dev nD) : Nat :=
  let c0_i32_691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_690 : BitVec 32 := 1#32
  let v625 : BitVec 32 := Scalar.muli v14 c1_i32_690
  let v626 : BitVec 32 := Scalar.addi c0_i32_691 v625
  v626.toNat
def k0_dev19 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_736 : BitVec 32 := 1#32
  let v666 : BitVec 32 := Scalar.muli v25 c1_i32_736
  let v667 : BitVec 32 := Scalar.addi c0_i32_737 v666
  v667.toNat
def k0_dev20 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_783 : BitVec 32 := 1#32
  let v706 : BitVec 32 := Scalar.muli v14 c1_i32_783
  let v707 : BitVec 32 := Scalar.addi c0_i32_784 v706
  v707.toNat
def k0_dev21 (d0 : Dev nD) : Nat :=
  let c0_i32_832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_831 : BitVec 32 := 1#32
  let v747 : BitVec 32 := Scalar.muli v25 c1_i32_831
  let v748 : BitVec 32 := Scalar.addi c0_i32_832 v747
  v748.toNat
def k0_dev22 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_878 : BitVec 32 := 1#32
  let v787 : BitVec 32 := Scalar.muli v14 c1_i32_878
  let v788 : BitVec 32 := Scalar.addi c0_i32_879 v787
  v788.toNat
def k0_dev23 (d0 : Dev nD) : Nat :=
  let c0_i32_925 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_924 : BitVec 32 := 1#32
  let v828 : BitVec 32 := Scalar.muli v25 c1_i32_924
  let v829 : BitVec 32 := Scalar.addi c0_i32_925 v828
  v829.toNat
def k0_dev24 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_971 : BitVec 32 := 1#32
  let v868 : BitVec 32 := Scalar.muli v14 c1_i32_971
  let v869 : BitVec 32 := Scalar.addi c0_i32_972 v868
  v869.toNat
def k0_dev25 (d0 : Dev nD) : Nat :=
  let c0_i32_1020 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1019 : BitVec 32 := 1#32
  let v909 : BitVec 32 := Scalar.muli v25 c1_i32_1019
  let v910 : BitVec 32 := Scalar.addi c0_i32_1020 v909
  v910.toNat
def k0_dev26 (d0 : Dev nD) : Nat :=
  let c0_i32_1067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1066 : BitVec 32 := 1#32
  let v949 : BitVec 32 := Scalar.muli v14 c1_i32_1066
  let v950 : BitVec 32 := Scalar.addi c0_i32_1067 v949
  v950.toNat
def k0_dev27 (d0 : Dev nD) : Nat :=
  let c0_i32_1113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1112 : BitVec 32 := 1#32
  let v990 : BitVec 32 := Scalar.muli v25 c1_i32_1112
  let v991 : BitVec 32 := Scalar.addi c0_i32_1113 v990
  v991.toNat
def k0_dev28 (d0 : Dev nD) : Nat :=
  let c0_i32_1160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1159 : BitVec 32 := 1#32
  let v1030 : BitVec 32 := Scalar.muli v14 c1_i32_1159
  let v1031 : BitVec 32 := Scalar.addi c0_i32_1160 v1030
  v1031.toNat
def k0_dev29 (d0 : Dev nD) : Nat :=
  let c0_i32_1208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1207 : BitVec 32 := 1#32
  let v1071 : BitVec 32 := Scalar.muli v25 c1_i32_1207
  let v1072 : BitVec 32 := Scalar.addi c0_i32_1208 v1071
  v1072.toNat
def k0_dev30 (d0 : Dev nD) : Nat :=
  let c0_i32_1255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1254 : BitVec 32 := 1#32
  let v1111 : BitVec 32 := Scalar.muli v14 c1_i32_1254
  let v1112 : BitVec 32 := Scalar.addi c0_i32_1255 v1111
  v1112.toNat
abbrev stage0_0 : Fin 1 → Memref sig .tc .vmem S1x512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x512x4096 : Shape := ⟨3, ![8, 512, 4096]⟩
abbrev S_ : Shape := ⟨0, ![]⟩
abbrev S512x4096 : Shape := ⟨2, ![512, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8x512x4096, .f32⟩
  | .hbm, ⟨1, _⟩ => ⟨S_, .f32⟩
  | .hbm, ⟨2, _⟩ => ⟨S512x4096, .f32⟩
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Steps.lean ====
/-
# The kernel's program, written once per transfer

Two rings run at the same time: one to the right neighbour, one to the left, each on two tiles of 128 rows.
Transfers are numbered in program order, four to a stage: transfer `i` belongs to stage `i / 4`, goes right when `i` is
even, and carries tile `(i / 2) % 2`. A slot of a ring's buffer is numbered alike: slot `k` is stage `k / 4`, tile
`(k / 2) % 2` of the buffer of its direction; transfer `i` reads slot `i` and lands in slot `i + 4`.

This module writes the body over these numbers and proves that the printed body is that program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-! ## Directions, buffers, slots -/

/-- Slot or transfer `k` belongs to the ring that sends right. -/
def rgt (k : ℕ) : Bool := k % 2 == 0

/-- The staged input. -/
abbrev xM : Memref sig .tc .vmem S1x512x4096 .f32 := Memref.whole cc0_stg0_0
/-- The staged output. -/
abbrev oM : Memref sig .tc .vmem S512x512 .f32 := Memref.whole cc0_stg1_0
/-- The buffer of the ring that sends right (`true`) or left (`false`). -/
def commM (b : Bool) : Memref sig .tc .vmem S8x2x128x512 .f32 :=
  match b with
  | true => Memref.whole cc0_scratch0
  | false => Memref.whole cc0_scratch1

/-- A slot's box lies in its buffer. -/
theorem part_inb (t : Fin 16) : ∀ a, (![t.val / 2, t.val % 2, 0, 0] : Fin 4 → ℕ) a + S1x1x128x512.size a ≤ S8x2x128x512.size a := by
  revert t; decide +kernel

/-- The box of slot `t` in its buffer. -/
abbrev partRect (t : Fin 16) : Rect S8x2x128x512 := Rect.unit (s := S8x2x128x512) ![t.val / 2, t.val % 2, 0, 0] S1x1x128x512.size (part_inb t)

/-- Slot `t` of a buffer. -/
def partM (b : Bool) (t : Fin 16) : Memref sig .tc .vmem S128x512 .f32 :=
  ((commM b).slice (partRect t) (fun _ => rfl)).squeeze S128x512 squeezes_S1x1x128x512_S128x512

/-- Slot `k`'s number within its own buffer. -/
def half (k : Fin 32) : Fin 16 := ⟨k.val / 2, by omega⟩

/-- The box of slot `k` in the buffer of its direction. -/
abbrev slotRect (k : Fin 32) : Rect S8x2x128x512 := partRect (half k)
/-- Slot `k`, in the buffer of its direction. -/
abbrev slotM (k : Fin 32) : Memref sig .tc .vmem S128x512 .f32 := partM (rgt k) (half k)

/-- The slot transfer `i` reads. -/
def lo (i : Fin 28) : Fin 32 := ⟨i.val, by omega⟩
/-- The slot transfer `i` lands in. -/
def hi (i : Fin 28) : Fin 32 := ⟨i.val + 4, by omega⟩

/-! ## Semaphores -/

/-- The arrays of send (`false`) and receive (`true`) semaphores of a direction. -/
def semA (recv right : Bool) : DmaSems sig S7x2 :=
  match recv, right with
  | false, true => cc0_scratch2
  | true, true => cc0_scratch3
  | false, false => cc0_scratch4
  | true, false => cc0_scratch5

/-- A transfer's place lies in the semaphore arrays. -/
theorem sem_inb (i : Fin 28) : ∀ a, (![i.val / 4, i.val / 2 % 2] : Fin 2 → ℕ) a + S1x1.size a ≤ S7x2.size a := by
  revert i; decide +kernel

/-- Transfer `i`'s send (`false`) or receive (`true`) semaphore. -/
def xsem (recv : Bool) (i : Fin 28) : DmaSem sig :=
  (((semA recv (rgt i)).slice (Rect.unit (s := S7x2) ![i.val / 4, i.val / 2 % 2] S1x1.size (sem_inb i))).squeeze S_ squeezes_S1x1_S_).sem

/-- The runtime's barrier semaphore. -/
abbrev barS : Sem sig := (SemArray.scalar (sig.barrier 0 rfl) : Sems sig S_).sem

/-! ## The part of the input added at a slot -/

/-- Where the block of the input for ring and tile `j` at stage `r` begins on device `d`. -/
def xoffAt (d : Dev nD) (r : Fin 8) : ℕ → Fin 3 → ℕ
  | 0 => k0_off1 d (k0_off1_at r)
  | 1 => k0_off2 d (k0_off2_at r)
  | 2 => k0_off3 d (k0_off3_at r)
  | _ => k0_off4 d (k0_off4_at r)

/-- The block lies in the input. -/
theorem xoffAt_inb (d : Dev nD) (r : Fin 8) : ∀ j a, xoffAt d r j a + S1x128x512.size a ≤ S1x512x4096.size a
  | 0 => k0_off1_inb d r
  | 1 => k0_off2_inb d r
  | 2 => k0_off3_inb d r
  | _ + 3 => k0_off4_inb d r

/-- Where the block of the input that slot `k` of device `d` receives begins. -/
def xoff (d : Dev nD) (k : Fin 32) : Fin 3 → ℕ := xoffAt d ⟨k.val / 4, by omega⟩ (k.val % 4)

/-- The block lies in the input. -/
theorem xoff_inb (d : Dev nD) (k : Fin 32) : ∀ a, xoff d k a + S1x128x512.size a ≤ S1x512x4096.size a := xoffAt_inb d _ _

/-- The box of that block. -/
abbrev xRect (d : Dev nD) (k : Fin 32) : Rect S1x512x4096 := Rect.unit (s := S1x512x4096) (xoff d k) S1x128x512.size (xoff_inb d k)

/-- Slot `k`'s rows of the output: written from the last stage's slots `28 + j`. -/
def orow (k : Fin 32) : ℕ := k.val / 2 % 2 * 128 + k.val % 2 * 256

/-- They lie in the output. -/
theorem out_inb (k : Fin 32) : ∀ a, (![orow k, 0] : Fin 2 → ℕ) a + S128x512.size a ≤ S512x512.size a := by
  revert k; decide +kernel

/-- Their box. -/
abbrev oRect (k : Fin 32) : Rect S512x512 := Rect.unit (s := S512x512) ![orow k, 0] S128x512.size (out_inb k)

/-! ## The values stored -/

/-- A block of the input as a tile. -/
def tile (x : Vec F S1x128x512 .f32) : FVec F S128x512 .f32 := shapeCast S128x512 x shapeCasts_S1x128x512_S128x512
/-- A slot's contents as a tile. -/
def untile (w : Vec F S1x1x128x512 .f32) : FVec F S128x512 .f32 := shapeCast S128x512 w shapeCasts_S1x1x128x512_S128x512
/-- A tile as a slot's contents. -/
def retile (t : FVec F S128x512 .f32) : FVec F S1x1x128x512 .f32 := shapeCast S1x1x128x512 t shapeCasts_S128x512_S1x1x128x512

/-! ## The pieces -/

/-- The neighbour a ring sends to. -/
def destB (right : Bool) (d : Dev nD) : Dev nD :=
  match right with
  | true => ⟨k0_dev3 d, k0_dev3_lt d⟩
  | false => ⟨k0_dev4 d, k0_dev4_lt d⟩
/-- The neighbour a ring receives from. -/
def origB (right : Bool) (d : Dev nD) : Dev nD := destB (!right) d

/-- The device transfer `i` of device `d` goes to. -/
abbrev dest (d : Dev nD) (i : ℕ) : Dev nD := destB (rgt i) d
/-- The device whose transfer `i` arrives at `d`. -/
abbrev orig (d : Dev nD) (i : ℕ) : Dev nD := origB (rgt i) d

/-- What the neighbour it receives from sends arrives at `d`. -/
theorem dest_orig (b : Bool) (d : Dev nD) : destB b (origB b d) = d := by revert b d; decide +kernel
/-- The neighbour it sends to receives from `d`. -/
theorem orig_dest (b : Bool) (d : Dev nD) : origB b (destB b d) = d := by revert b d; decide +kernel

/-- The first signal goes to the left neighbour. -/
theorem dev1_eq (d : Dev nD) : (⟨k0_dev1 d, k0_dev1_lt d⟩ : Dev nD) = origB true d := by revert d; decide +kernel
/-- The second goes to the right one. -/
theorem dev2_eq (d : Dev nD) : (⟨k0_dev2 d, k0_dev2_lt d⟩ : Dev nD) = origB false d := by revert d; decide +kernel

/-- A ring as a permutation of the devices. -/
def ring (b : Bool) : Dev nD ≃ Dev nD := ⟨destB b, origB b, orig_dest b, dest_orig b⟩

/-- Programs of a TensorCore. -/
abbrev P (F : FTy → Type) [FloatOps F] := Prog (TpuEff nD τ sig (Elt F) Λ₀ .tc) PUnit

/-- Fill slot `k` with the input's block. -/
def storeInit (d : Dev nD) (k : Fin 32) : P F := do
  let x : Vec F S1x128x512 .f32 ← Prog.lift (.load xM (xRect d k).toLoadRect (View.loadsAt_vmem h_S1x128x512))
  let _w : Vec F S1x1x128x512 .f32 ← Prog.lift (.load (commM (rgt k)) (slotRect k).toLoadRect (View.loadsAt_vmem h_S1x1x128x512))
  Prog.lift (.store (commM (rgt k)) (slotRect k) (retile (tile x)) Finset.univ (View.stores_vmem_bits_univ h_S1x1x128x512 rfl) (.inl rfl))

/-- Start transfer `i`. -/
def sendTo (d : Dev nD) (i : Fin 28) : P F :=
  Prog.lift (.enqueueDma (slotM (lo i)) (.remote (Dev.tc (dest d i)) (slotM (hi i)) (.dma (xsem false i))) (.dma (xsem true i))
    ((View.wordExact_bits rfl).reshape _ _) ((View.wordExact_bits rfl).reshape _ _) ⟨⟨rfl, Or.inl rfl⟩, trivial⟩)

/-- Wait for the arrival of transfer `i`. -/
def waitRecv (i : Fin 28) : P F :=
  Prog.lift (.waitDma2 (xsem true i) (slotM (lo i)) (slotM (hi i)) ((View.wordExact_bits rfl).reshape _ _) ((View.wordExact_bits rfl).reshape _ _))

/-- Wait until transfer `i` has left its source. -/
def waitSend (i : Fin 28) : P F :=
  Prog.lift (.waitDma2 (xsem false i) (slotM (hi i)) (slotM (lo i)) ((View.wordExact_bits rfl).reshape _ _) ((View.wordExact_bits rfl).reshape _ _))

/-- Add the input's block to slot `k`. -/
def addTo (d : Dev nD) (k : Fin 32) : P F := do
  let x : Vec F S1x128x512 .f32 ← Prog.lift (.load xM (xRect d k).toLoadRect (View.loadsAt_vmem h_S1x128x512))
  let w : Vec F S1x1x128x512 .f32 ← Prog.lift (.load (commM (rgt k)) (slotRect k).toLoadRect (View.loadsAt_vmem h_S1x1x128x512))
  let _w : Vec F S1x1x128x512 .f32 ← Prog.lift (.load (commM (rgt k)) (slotRect k).toLoadRect (View.loadsAt_vmem h_S1x1x128x512))
  Prog.lift (.store (commM (rgt k)) (slotRect k) (retile (addf (untile w) (tile x))) Finset.univ (View.stores_vmem_bits_univ h_S1x1x128x512 rfl) (.inl rfl))

/-- Add the input's block to slot `k` and store the sum into the output. -/
def addOut (d : Dev nD) (k : Fin 32) : P F := do
  let x : Vec F S1x128x512 .f32 ← Prog.lift (.load xM (xRect d k).toLoadRect (View.loadsAt_vmem h_S1x128x512))
  let w : Vec F S1x1x128x512 .f32 ← Prog.lift (.load (commM (rgt k)) (slotRect k).toLoadRect (View.loadsAt_vmem h_S1x1x128x512))
  let _o : Vec F S128x512 .f32 ← Prog.lift (.load oM (oRect k).toLoadRect (View.loadsAt_vmem h_S128x512))
  Prog.lift (.store oM (oRect k) (addf (untile w) (tile x)) Finset.univ (View.stores_vmem_bits_univ h_S128x512 rfl) (.inl rfl))

/-! ## The whole program -/

/-- The transfer numbered `k`. -/
def fin (k : ℕ) : Fin 28 := ⟨k % 28, Nat.mod_lt _ (by decide)⟩

/-- The slot numbered `k`. -/
def slot (k : ℕ) : Fin 32 := ⟨k % 32, Nat.mod_lt _ (by decide)⟩

/-- Below 28, the number is kept. -/
theorem fin_val {k : ℕ} (h : k < 28) : (fin k).val = k := Nat.mod_eq_of_lt h
/-- Below 32, the number is kept. -/
theorem slot_val {k : ℕ} (h : k < 32) : (slot k).val = k := Nat.mod_eq_of_lt h
/-- Transfer `k` reads slot `k`. -/
theorem lo_fin {k : ℕ} (h : k < 28) : lo (fin k) = slot k := Fin.ext ((fin_val h).trans (slot_val (by omega)).symm)
/-- Transfer `k` lands in slot `k + 4`. -/
theorem hi_fin {k : ℕ} (h : k < 28) : hi (fin k) = slot (k + 4) :=
  Fin.ext ((congrArg (· + 4) (fin_val h)).trans (slot_val (by omega)).symm)

/-- `n` pieces in order, the first numbered `k`. -/
def runFrom (f : ℕ → P F) : ℕ → ℕ → P F
  | 0, _ => pure ⟨⟩
  | n + 1, k => do f k; runFrom f n (k + 1)

/-- Fill two slots, one of each direction, and start their transfers. -/
def fillPair (d : Dev nD) (k : ℕ) : P F := do
  storeInit d (lo (fin (2 * k))); storeInit d (lo (fin (2 * k + 1)))
  sendTo d (fin (2 * k)); sendTo d (fin (2 * k + 1))

/-- One middle step: receive, add, send on. -/
def passOn (d : Dev nD) (k : ℕ) : P F := do
  waitRecv (fin k); addTo d (hi (fin k)); sendTo d (fin (k + 4))

/-- One last step: receive, add into the output. -/
def finish (d : Dev nD) (k : ℕ) : P F := do
  waitRecv (fin k); addOut d (hi (fin k))

/-- The kernel's body. -/
def body : P F := do
  let d : Dev nD ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  runFrom (fillPair d) 2 0
  runFrom (passOn d) 24 0
  runFrom (finish d) 4 24
  runFrom (fun k => waitSend (fin k)) 28 0

set_option maxRecDepth 100000 in
/-- The printed body is this program. -/
theorem body_eq : cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5 = body (F := F) := by
  rw [cc0_body_eq_skeleton]
  sl_kernel_rfl

end Cert.KernelIdeal.Ring
-- ==== Proof.KernelIdeal.Sched.lean ====
/-
# Contents, cells and the schedule

What every slot holds, which semaphore cells there are, and who pays what into which cell. A device's barrier cell is
paid by its two neighbours, one unit each; a neighbour's payment hands over the slots its incoming transfers from this device
land in. A receive cell is paid by the transfer that lands, which hands over the filled slot; a send cell by the transfer
that leaves, which hands the source slot back.
-/
module

public import proofs.«01_k».proof.Proof.KernelIdeal.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rings' own resource algebra, with duties named by a truth value. -/
abbrev UB : Type := URounds (GSem nD τ sig) Bool
/-- The resource algebra: the pipeline library's copy and the rings' own. -/
abbrev UU : Type := UR sig nD τ × UB

local notation "𝕄" => MT nD τ sig Unit (Elt F) ℕ UU ℕ

/-- Where the pipeline's copy sits in the whole. -/
abbrev EP : Emb (UR sig nD τ) (MT nD τ sig Unit (Elt F) ℕ UU ℕ) := embL
/-- Where the rings' copy sits. -/
abbrev ER : Emb UB (MT nD τ sig Unit (Elt F) ℕ UU ℕ) := embR

variable (m : (ℓ : Loc nD τ sig) → Buf (Elt F) ℓ) (ρ : Dev nD → PrngReg)

/-- The state at launch: arbitrary memory, every counter zero. -/
def s₀ : MemSt nD τ sig (Elt F) := ⟨m, fun _ => 0, ρ⟩

/-! ## Contents -/

/-- Device `c`'s staged input. -/
def xstg (c : Dev nD) : (cc0_stg0_0 : Ref sig .tc).ty.Contents (Elt F) :=
  (win0_0.blk (0 : Fin 1)).view.read (Elt F) ((s₀ m ρ).mem ((c : Thread nD τ).loc main_arg0))

/-- The tile of device `c`'s input for stage `r` of ring and tile `j`. -/
def xtile (c : Dev nD) (r : Fin 8) (j : ℕ) : FVec F S128x512 .f32 :=
  tile (xM.view.readAt (Elt F) (Rect.unit (s := S1x512x4096) (xoffAt c r j) S1x128x512.size (xoffAt_inb c r j)).toLoadRect (xstg m ρ c))

/-- What device `c` holds in ring and tile `j` at stage `s`, its own tile added: the first stage is its own tile; a later one the
    previous stage's value on the device it receives from plus its own tile. -/
def acc (j : ℕ) : ℕ → Dev nD → FVec F S128x512 .f32
  | 0, c => xtile m ρ c 0 j
  | s + 1, c => addf (acc j s (orig c j)) (xtile m ρ c (Fin.ofNat 8 (s + 1)) j)

/-- What slot `k` of device `c` holds when it is full. -/
def val (k : ℕ) (c : Dev nD) : FVec F S128x512 .f32 := acc m ρ (k % 4) (k / 4) c

omit [FloatOps F] in
/-- A transfer's direction depends on its ring and tile only. -/
theorem rgt_mod (k : ℕ) : rgt (k % 4) = rgt k := by
  unfold rgt; rw [Nat.mod_mod_of_dvd k (by decide : 2 ∣ 4)]

/-- The block of the input read at slot `k`. -/
def xblk (c : Dev nD) (k : Fin 32) : FVec F S128x512 .f32 := tile (xM.view.readAt (Elt F) (xRect c k).toLoadRect (xstg m ρ c))

/-- It is the tile of the slot's stage. -/
theorem xblk_eq (c : Dev nD) (k : Fin 32) : xblk m ρ c k = xtile m ρ c ⟨k.val / 4, by omega⟩ (k.val % 4) := rfl

/-- The first four slots hold the device's own tiles. -/
theorem val_first (c : Dev nD) (k : ℕ) (h : k < 4) : val m ρ k c = xblk m ρ c (slot k) := by
  have h1 : (slot k).val = k := slot_val (by omega)
  rw [xblk_eq, val]
  have h2 : (⟨(slot k).val / 4, by omega⟩ : Fin 8) = 0 := Fin.ext (show (slot k).val / 4 = 0 by omega)
  rw [h2, h1, show k / 4 = 0 by omega]
  rfl

/-- A later slot holds what transfer `k` brought plus the device's own tile. -/
theorem val_next (c : Dev nD) (k : ℕ) (h : k < 28) :
    val m ρ (k + 4) c = addf (val m ρ k (orig c k)) (xblk m ρ c (slot (k + 4))) := by
  have h1 : (slot (k + 4)).val = k + 4 := slot_val (by omega)
  rw [xblk_eq, val, val]
  have h2 : (⟨(slot (k + 4)).val / 4, by omega⟩ : Fin 8) = Fin.ofNat 8 (k / 4 + 1) :=
    Fin.ext (show (slot (k + 4)).val / 4 = (k / 4 + 1) % 8 by omega)
  rw [h2, h1, show (k + 4) / 4 = k / 4 + 1 by omega, show (k + 4) % 4 = k % 4 by omega]
  show addf (acc m ρ (k % 4) (k / 4) (origB (rgt (k % 4)) c)) _ = _
  rw [rgt_mod]

/-! ## Cells -/

/-- Device `c`'s barrier cell. -/
abbrev barCell (c : Dev nD) : GSem nD τ sig := ((c : Thread nD τ), .reg barS)
/-- Device `c`'s send (`false`) or receive (`true`) cell of transfer `i`. -/
abbrev xCell (b : Bool) (c : Dev nD) (i : Fin 28) : GSem nD τ sig := ((c : Thread nD τ), .dma (xsem b i))

/-- Which transfer a DMA semaphore belongs to, and on which side. -/
def dec (q : DmaSem sig) : Option (Bool × Fin 28) :=
  if q.val < 2 then none
  else some ((q.val - 2) / 14 % 2 == 1, ⟨(2 * ((q.val - 2) % 14) + (if (q.val - 2) / 14 < 2 then 0 else 1)) % 28, Nat.mod_lt _ (by decide)⟩)

/-- It finds every transfer's semaphores. -/
theorem dec_xsem : ∀ (b : Bool) (i : Fin 28), dec (xsem b i) = some (b, i) := by decide +kernel

/-- So transfers have semaphores of their own. -/
theorem xsem_inj {b b' : Bool} {i i' : Fin 28} (h : xsem b i = xsem b' i') : b = b' ∧ i = i' := by
  have := (dec_xsem b i).symm.trans ((congrArg dec h).trans (dec_xsem b' i'))
  exact ⟨congrArg Prod.fst (Option.some.inj this), congrArg Prod.snd (Option.some.inj this)⟩

/-- The credit of one transfer. -/
abbrev N : ℕ := (slotM 0).view.dmaCredit
/-- It is positive. -/
theorem N_pos : 0 < N := View.dmaCredit_pos _ (by decide)
/-- Every slot has this credit. -/
theorem credit_eq (k : Fin 32) : (slotM k).view.dmaCredit = N := by
  revert k; decide +kernel

/-! ## Payloads -/

/-- Slot `k` of device `c`, holding `v`. -/
def full (c : Dev nD) (k : Fin 32) (v : FVec F S128x512 .f32) : sProp 𝕄 := owns (c : Thread nD τ) (slotM k) fullShare v
/-- Slot `k` of device `c`, whatever it holds. -/
def held (c : Dev nD) (k : Fin 32) : sProp 𝕄 := iprop(∃ v, full c k v)

omit [FloatOps F] in
/-- A full slot may be handed over through a cell. -/
instance full_storable (c : Dev nD) (k : Fin 32) (v) : BI.Storable (upEmb : UEmb _ 𝕄) (full (F := F) c k v) := by unfold full; infer_instance
omit [FloatOps F] in
/-- So may a slot with any contents. -/
instance held_storable (c : Dev nD) (k : Fin 32) : BI.Storable (upEmb : UEmb _ 𝕄) (held (F := F) c k) := by unfold held; infer_instance

/-- What the neighbour that ring `b` sends to hands over: its landing slots of that ring. -/
def barPay (c : Dev nD) (b : Bool) : sProp 𝕄 :=
  bigSep (Finset.univ.filter fun i : Fin 28 => rgt i = b) fun i => held (destB b c) (hi i)
/-- What an arrival hands over: the slot it landed in, filled. -/
def recvPay (c : Dev nD) (i : Fin 28) : sProp 𝕄 := full c (hi i) (val m ρ i (orig c i))
/-- What a departure hands back: the slot it left from. -/
def sendPay (c : Dev nD) (i : Fin 28) : sProp 𝕄 := held c (lo i)

/-- What a transfer's cell hands over. -/
def xferPay (c : Dev nD) : Option (Bool × Fin 28) → sProp 𝕄
  | some (true, i) => recvPay m ρ c i
  | some (false, i) => sendPay c i
  | none => iprop(emp)

/-- One round: a barrier cell has two duties of one unit each; a transfer's cell one duty of the transfer's credit. -/
def rd : Rounds.Schedule (GSem nD τ sig) Bool 𝕄 where
  duties g r :=
    if r = 0 ∧ g.1.2 = .tc then
      match g.2 with
      | .reg s => if s = barS then Finset.univ else ∅
      | .dma q => if (dec q).isSome then {false} else ∅
    else ∅
  unitless _ := False
  amount g _ _ :=
    match g.2 with
    | .reg _ => 1
    | .dma _ => N
  payload g _ d :=
    match g.2 with
    | .reg _ => barPay g.1.1 d
    | .dma q => xferPay m ρ g.1.1 (dec q)
  amount_pos g _ _ _ := by
    rcases g with ⟨t, s | q⟩
    · exact Nat.one_pos
    · exact N_pos

/-- Every payload may be handed over through a cell. -/
instance rd_payload_storable (g : GSem nD τ sig) (r : ℕ) (d : Bool) :
    BI.Storable (upEmb : UEmb _ 𝕄) ((rd (F := F) m ρ).payload g r d) := by
  rcases g with ⟨t, s | q⟩
  · show BI.Storable upEmb (barPay t.1 d)
    unfold barPay; infer_instance
  · show BI.Storable upEmb (xferPay m ρ t.1 (dec q))
    rcases dec q with _ | ⟨_ | _, i⟩
    · show BI.Storable upEmb iprop(emp); infer_instance
    · show BI.Storable upEmb (sendPay t.1 i); unfold sendPay; infer_instance
    · show BI.Storable upEmb (recvPay m ρ t.1 i); unfold recvPay; infer_instance

section Sched
variable (c : Dev nD)

/-- A barrier cell has both duties. -/
theorem duties_bar : (rd (F := F) m ρ).duties (barCell c) 0 = Finset.univ := rfl
/-- A transfer's cell has one duty. -/
theorem duties_x (b : Bool) (i : Fin 28) : (rd (F := F) m ρ).duties (xCell b c i) 0 = {false} := by
  show (if (dec (xsem b i)).isSome then ({false} : Finset Bool) else ∅) = _
  rw [dec_xsem]; rfl
/-- There is one round only. -/
theorem duties_later (g : GSem nD τ sig) : ∀ r, 1 ≤ r → (rd (F := F) m ρ).duties g r = ∅ :=
  fun r hr => if_neg fun h => by omega

/-- A barrier duty is one unit. -/
theorem amount_bar (d : Bool) : (rd (F := F) m ρ).amount (barCell c) 0 d = 1 := rfl
/-- A transfer's duty is its credit. -/
theorem amount_x (b : Bool) (i : Fin 28) (d : Bool) : (rd (F := F) m ρ).amount (xCell b c i) 0 d = N := rfl

/-- A barrier expects two units. -/
theorem expect_bar : (rd (F := F) m ρ).expect (barCell c) 0 = 2 := by
  unfold Schedule.expect Schedule.amountOf
  rw [duties_bar, Finset.sum_congr rfl fun d _ => amount_bar m ρ c d]; rfl
/-- A transfer's cell expects its credit. -/
theorem expect_x (b : Bool) (i : Fin 28) : (rd (F := F) m ρ).expect (xCell b c i) 0 = N := by
  unfold Schedule.expect Schedule.amountOf
  rw [duties_x, Finset.sum_singleton, amount_x]

/-- What a barrier duty hands over. -/
theorem payload_bar (d : Bool) : (rd (F := F) m ρ).payload (barCell c) 0 d = barPay c d := rfl
/-- What a send cell's duty hands over. -/
theorem payload_send (i : Fin 28) (d : Bool) : (rd (F := F) m ρ).payload (xCell false c i) 0 d = sendPay c i := by
  show xferPay m ρ c (dec (xsem false i)) = _
  rw [dec_xsem]; rfl
/-- What a receive cell's duty hands over. -/
theorem payload_recv (i : Fin 28) (d : Bool) : (rd (F := F) m ρ).payload (xCell true c i) 0 d = recvPay m ρ c i := by
  show xferPay m ρ c (dec (xsem true i)) = _
  rw [dec_xsem]; rfl

/-- All a wait takes from the barrier: both neighbours' landing slots. -/
theorem rest_bar : bigSep ((rd (F := F) m ρ).duties (barCell c) 0 \ ∅) (fun d => (rd (F := F) m ρ).payload (barCell c) 0 d)
    = iprop(barPay c false ∗ barPay c true) := by
  rw [Finset.sdiff_empty, duties_bar, bigSep_univ_eq_bigSepL [false, true] (by decide) (by decide), bigSepL_cons_cons, bigSepL_singleton]
  rfl
/-- All a wait takes from a send cell. -/
theorem rest_send (i : Fin 28) :
    bigSep ((rd (F := F) m ρ).duties (xCell false c i) 0 \ ∅) (fun d => (rd (F := F) m ρ).payload (xCell false c i) 0 d) = sendPay c i := by
  rw [Finset.sdiff_empty, duties_x, bigSep_singleton, payload_send]
/-- All a wait takes from a receive cell. -/
theorem rest_recv (i : Fin 28) :
    bigSep ((rd (F := F) m ρ).duties (xCell true c i) 0 \ ∅) (fun d => (rd (F := F) m ρ).payload (xCell true c i) 0 d) = recvPay m ρ c i := by
  rw [Finset.sdiff_empty, duties_x, bigSep_singleton, payload_recv]

end Sched

/-! ## What is owed, and the order of waits -/

/-- A run without its first number. -/
theorem Ico_take {a b : ℕ} (h : a < b) : Finset.Ico a b = insert a (Finset.Ico (a + 1) b) := by
  ext k; rw [Finset.mem_insert, Finset.mem_Ico, Finset.mem_Ico]; omega
/-- A run with one more at the end. -/
theorem Ico_put {a b : ℕ} (h : a ≤ b) : Finset.Ico a (b + 1) = insert b (Finset.Ico a b) := by
  ext k; rw [Finset.mem_insert, Finset.mem_Ico, Finset.mem_Ico]; omega
/-- The number taken is gone. -/
theorem not_mem_take (a b : ℕ) : a ∉ Finset.Ico (a + 1) b := by rw [Finset.mem_Ico]; omega
/-- The number put on is new. -/
theorem not_mem_put (a b : ℕ) : b ∉ Finset.Ico a b := by rw [Finset.mem_Ico]; omega

/-- The receive credits device `c` still owes when it has started the first `n` transfers. -/
def owed (c : Dev nD) (n : ℕ) : CellTallies nD τ sig Unit :=
  ∑ k ∈ Finset.Ico n 28, tallyAt (xCell true (dest c (fin k)) (fin k)) () N

/-- Transfer `n` pays its own credit. -/
theorem owed_step (c : Dev nD) (n : ℕ) (h : n < 28) :
    owed c n = owed c (n + 1) + tallyAt (xCell true (dest c (fin n)) (fin n)) () N := by
  unfold owed; rw [Ico_take h, Finset.sum_insert (not_mem_take n 28), add_comm]
/-- In the end nothing is owed. -/
theorem owed_end (c : Dev nD) : owed c 28 = 0 := rfl

/-- After the first signal: one barrier unit and every receive credit. -/
def O₁ (c : Dev nD) : CellTallies nD τ sig Unit := owed c 0 + tallyAt (barCell (origB false c)) () 1
/-- At launch: both barrier units and every receive credit. -/
def O₀ (c : Dev nD) : CellTallies nD τ sig Unit := O₁ c + tallyAt (barCell (origB true c)) () 1

/-- The cells that have a level: those of the TensorCores. -/
def L (g : GSem nD τ sig) : Finset Unit := if g.1.2 = .tc then {()} else ∅

/-- Barrier cells first, then the receive cells stage by stage; nothing waits for what is above it. -/
def lv (g : GSem nD τ sig) (_ : Unit) : ℕ :=
  match g.2 with
  | .reg _ => 1
  | .dma q =>
    match dec q with
    | some (true, i) => i.val / 4 + 2
    | _ => 0

/-- No other core has one. -/
theorem L_of_ne (g : GSem nD τ sig) (h : g.1.2 ≠ .tc) : L g = ∅ := if_neg h
/-- Every cell of a TensorCore has one. -/
theorem L_tc (c : Dev nD) (sm : SemLoc sig) : L ((c : Thread nD τ), sm) = {()} := if_pos rfl
/-- The level of a receive cell. -/
theorem lv_recv (c : Dev nD) (i : Fin 28) (u : Unit) : lv (xCell true c i) u = i.val / 4 + 2 := by
  show (match dec (xsem true i) with | some (true, i) => i.val / 4 + 2 | _ => 0) = _
  rw [dec_xsem]
/-- The level of a send cell. -/
theorem lv_send (c : Dev nD) (i : Fin 28) (u : Unit) : lv (xCell false c i) u = 0 := by
  show (match dec (xsem false i) with | some (true, i) => i.val / 4 + 2 | _ => 0) = _
  rw [dec_xsem]

/-- What is owed after `n` transfers is owed to receive cells of transfers from `n` on. -/
theorem owed_pos {c : Dev nD} {n : ℕ} {g : GSem nD τ sig} {u : Unit} (h : 0 < owed c n g u) :
    ∃ k, n ≤ k ∧ k < 28 ∧ g = xCell true (dest c (fin k)) (fin k) := by
  by_contra hn
  have hz : owed c n g u = 0 := by
    unfold owed
    rw [Finset.sum_apply, Finsupp.finset_sum_apply]
    refine Finset.sum_eq_zero fun k hk => ?_
    rw [tallyAt_apply, if_neg fun h' => hn ⟨k, (Finset.mem_Ico.mp hk).1, (Finset.mem_Ico.mp hk).2, h'.1⟩]
  omega

/-- What is owed at launch is owed to receive cells and to the two barriers. -/
theorem O₀_pos {c : Dev nD} {g : GSem nD τ sig} {u : Unit} (h : 0 < O₀ c g u) :
    (∃ k, k < 28 ∧ g = xCell true (dest c (fin k)) (fin k)) ∨ g = barCell (origB false c) ∨ g = barCell (origB true c) := by
  by_contra hn
  rw [not_or, not_or] at hn
  have h0 : owed c 0 g u = 0 := by
    by_contra hne
    obtain ⟨k, -, hk, hg⟩ := owed_pos (Nat.pos_of_ne_zero hne)
    exact hn.1 ⟨k, hk, hg⟩
  unfold O₀ O₁ at h
  rw [Pi.add_apply, Finsupp.add_apply, Pi.add_apply, Finsupp.add_apply, h0, tallyAt_apply, tallyAt_apply,
    if_neg (fun h' => hn.2.1 h'.1), if_neg (fun h' => hn.2.2 h'.1)] at h
  exact Nat.lt_irrefl 0 h

/-- A wait at a level below everything owed after `n` transfers is allowed. -/
theorem mayWait_owed (c : Dev nD) (n : ℕ) (sm : SemLoc sig) (b : ℕ) (hb : lv ((c : Thread nD τ), sm) () ≤ b)
    (hn : ∀ k, n ≤ k → k < 28 → b < k / 4 + 2) :
    (levAts L lv : sProp 𝕄) ⊢ MayWait (c : Thread nD τ) sm () (owed c n) :=
  MayOwe.of_cut (L := L) (lev := lv) b (fun p hp => by rw [Finset.mem_singleton.mp hp, L_tc]; exact Finset.mem_singleton_self _)
    (fun g u hg => by obtain ⟨k, -, -, rfl⟩ := owed_pos hg; exact Finset.mem_singleton_self _)
    (fun p hp => by rw [Finset.mem_singleton.mp hp]; exact hb)
    (fun g u hg => by
      obtain ⟨k, h1, h2, rfl⟩ := owed_pos hg
      rw [lv_recv, fin_val h2]; exact hn k h1 h2)

/-- A staging wait, at the bottom, is allowed at launch and at the end. -/
theorem mayWait_stage (c : Dev nD) (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, -, rfl⟩ | rfl | rfl <;> exact Finset.mem_singleton_self _)
      (fun p hp => by
        rw [Finset.mem_singleton.mp hp]
        show (match dec q with | some (true, i) => i.val / 4 + 2 | _ => 0) ≤ 0
        rw [hq])
      (fun g u hg => by
        rcases O₀_pos hg with ⟨k, -, rfl⟩ | rfl | rfl
        · rw [lv_recv]; omega
        · exact Nat.one_pos
        · exact Nat.one_pos)
  · rw [MayWait_zero]; iintro -; iempintro

end Cert.KernelIdeal.Ring
-- ==== Proof.KernelIdeal.Pieces.lean ====
/-
# What each piece of the program does

One statement per piece of `Steps`: what it needs and what it leaves, with the rest of the device's state left out.
-/
module

public import proofs.«01_k».proof.Proof.KernelIdeal.Sched
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop of the program needs a variant. -/
abbrev 𝒱₀ : Variants := Variants.none

/-- A program of device `c` run to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Run a piece, then go on from what it leaves. -/
theorem wp_then {c : Dev nD} {p : P F} {q : P F} {A B : sProp 𝕄} {Q : PUnit → sProp 𝕄} (h : A ⊢ WP c p (fun _ => B)) :
    A ⊢ iprop((B -∗ WP c q Q) -∗ WP c (p >>= fun _ => q) Q) := by
  unfold WP
  rw [wp_bind]
  iintro HA Hk
  ihave Hp := h $$ HA
  iapply (wp_wand _ _ _) $$ Hp
  iintro %a HB
  iapply Hk $$ HB

/-- A loop keeps an invariant that each of its pieces keeps. -/
theorem wp_runFrom {c : Dev nD} (f : ℕ → P F) (St : ℕ → sProp 𝕄) (b : ℕ) (h : ∀ k, k < b → St k ⊢ WP c (f k) (fun _ => St (k + 1))) :
    ∀ n k, k + n ≤ b → St k ⊢ WP c (runFrom f n k) (fun _ => St (k + n))
  | 0, k, _ => by
    show St k ⊢ WP c (Prog.ret PUnit.unit : P F) _
    rw [WP, wp_ret]
    iintro H; imodintro; iexact H
  | n + 1, k, hb => by
    show St k ⊢ WP c (f k >>= fun _ => runFrom f n (k + 1)) _
    iintro H
    iapply (wp_then (h k (by omega))) $$ H
    iintro H
    rw [show k + (n + 1) = k + 1 + n by omega]
    iapply (wp_runFrom f St b h n (k + 1) (by omega)) $$ H

/-! ## Slots as the memory rules see them -/

/-- A slot's elements are those of its box in its buffer. -/
theorem slot_set (k : Fin 32) : (slotM k).view.set = ((commM (rgt k)).access (slotRect k)).set := View.set_reshape _ _

/-- A tile stored and read back is that tile. -/
theorem untile_retile (t : FVec F S128x512 .f32) : untile (retile t) = t := by
  unfold untile retile
  exact shapeCast_shapeCast _ _ _

/-- Slot `k`'s box in its buffer, as loads and stores address it. -/
abbrev box (k : Fin 32) := (commM (rgt k)).access (slotRect k)

/-- A full slot is its box holding the tile. -/
theorem full_eq (c : Dev nD) (k : Fin 32) (v : FVec F S128x512 .f32) :
    full (F := F) c k v = iprop(∃ f : Buf (Elt F) ((box k).loc (c : Thread nD τ)), ⌜untile ((box k).read (Elt F) f) = v⌝
      ∗ ((box k).loc (c : Thread nD τ) ↦[(box k).set]{fullShare} f)) := by
  show iprop(∃ f : Buf (Elt F) ((box k).loc (c : Thread nD τ)), ⌜untile ((box k).read (Elt F) f) = v⌝
      ∗ ((box k).loc (c : Thread nD τ) ↦[(slotM k).view.set]{fullShare} f)) = _
  exact congrArg (fun S : Finset (Idx ((box k).loc (c : Thread nD τ))) => iprop(∃ f : Buf (Elt F) ((box k).loc (c : Thread nD τ)),
    ⌜untile ((box k).read (Elt F) f) = v⌝ ∗ ((box k).loc (c : Thread nD τ) ↦[S]{fullShare} f))) (slot_set k)

/-- A slot after its box is stored into. -/
theorem box_write (k : Fin 32) (f : (box k).ty.Contents (Elt F)) (t : FVec F S128x512 .f32) :
    untile ((box k).read (Elt F) ((box k).write (Elt F) f (retile t) Finset.univ)) = t := by
  rw [View.read_write_univ, untile_retile]

/-! ## The staged input and output -/

/-- Device `c`'s staged input, untouched. -/
def xPts (c : Dev nD) : sProp 𝕄 := (((c : Thread nD τ).loc cc0_stg0_0) ↦{fullShare} (xstg m ρ c))
/-- Device `c`'s staged output, holding `f`. -/
def oPts (c : Dev nD) (f : Buf (Elt F) ((c : Thread nD τ).loc cc0_stg1_0)) : sProp 𝕄 := (((c : Thread nD τ).loc cc0_stg1_0) ↦{fullShare} f)

/-! ## Loads and stores -/

/-- Filling a slot leaves it holding the device's own tile. -/
theorem storeInit_wp (c : Dev nD) (k : Fin 32) :
    iprop(xPts m ρ c ∗ held c k) ⊢ WP c (storeInit c k) (fun _ => iprop(xPts m ρ c ∗ full c k (xblk m ρ c k))) := by
  unfold storeInit WP
  simp only [Prog.lift, Prog.bind_op, Prog.bind_ret, Prog.pure_eq_ret]
  unfold xPts held
  simp only [full_eq]
  iintro ⟨Hx, ⟨%v, %f, %hf, Hw⟩⟩
  iapply (wp_load 𝒱₀ (c : Thread nD τ) none Set.univ (m := xM) (Finset.subset_univ _)) $$ Hx; iintro Hx
  iapply (wp_load_rect 𝒱₀ (c : Thread nD τ) none Set.univ (m := commM (rgt k)) (r := slotRect k) (Finset.Subset.refl _)) $$ Hw; iintro Hw
  iapply (wp_store 𝒱₀ (c : Thread nD τ) none Set.univ (m := commM (rgt k)) (r := slotRect k) (Mk := Finset.univ) (S := (box k).set) (Finset.Subset.refl _)) $$ Hw; iintro Hw
  rw [wp_ret]; imodintro
  isplitl [Hx]; · iexact Hx
  iexists _
  isplitr; · ipureintro; exact box_write k f _
  iexact Hw

/-- Adding into a slot. -/
theorem addTo_wp (c : Dev nD) (k : Fin 32) (v : FVec F S128x512 .f32) :
    iprop(xPts m ρ c ∗ full c k v) ⊢ WP c (addTo c k) (fun _ => iprop(xPts m ρ c ∗ full c k (addf v (xblk m ρ c k)))) := by
  unfold addTo WP
  simp only [Prog.lift, Prog.bind_op, Prog.bind_ret, Prog.pure_eq_ret]
  unfold xPts
  simp only [full_eq]
  iintro ⟨Hx, ⟨%f, %hf, Hw⟩⟩
  iapply (wp_load 𝒱₀ (c : Thread nD τ) none Set.univ (m := xM) (Finset.subset_univ _)) $$ Hx; iintro Hx
  iapply (wp_load_rect 𝒱₀ (c : Thread nD τ) none Set.univ (m := commM (rgt k)) (r := slotRect k) (Finset.Subset.refl _)) $$ Hw; iintro Hw
  iapply (wp_load_rect 𝒱₀ (c : Thread nD τ) none Set.univ (m := commM (rgt k)) (r := slotRect k) (Finset.Subset.refl _)) $$ Hw; iintro Hw
  iapply (wp_store 𝒱₀ (c : Thread nD τ) none Set.univ (m := commM (rgt k)) (r := slotRect k) (Mk := Finset.univ) (S := (box k).set) (Finset.Subset.refl _)) $$ Hw; iintro Hw
  rw [wp_ret]; imodintro
  isplitl [Hx]; · iexact Hx
  iexists _
  isplitr
  · ipureintro
    rw [← hf]; exact box_write k f _
  iexact Hw

/-- Adding a slot into the output's rows. -/
theorem addOut_wp (c : Dev nD) (k : Fin 32) (v : FVec F S128x512 .f32) (g : Buf (Elt F) ((c : Thread nD τ).loc cc0_stg1_0)) :
    iprop(xPts m ρ c ∗ full c k v ∗ oPts c g) ⊢ WP c (addOut c k) (fun _ => iprop(xPts m ρ c ∗ held c k
      ∗ oPts c (((oM : Memref sig .tc .vmem S512x512 .f32).access (oRect k)).write (Elt F) g (addf v (xblk m ρ c k)) Finset.univ))) := by
  unfold addOut WP
  simp only [Prog.lift, Prog.bind_op, Prog.bind_ret, Prog.pure_eq_ret]
  unfold xPts held oPts
  simp only [full_eq]
  iintro ⟨Hx, ⟨%f, %hf, Hw⟩, Ho⟩
  iapply (wp_load 𝒱₀ (c : Thread nD τ) none Set.univ (m := xM) (Finset.subset_univ _)) $$ Hx; iintro Hx
  iapply (wp_load_rect 𝒱₀ (c : Thread nD τ) none Set.univ (m := commM (rgt k)) (r := slotRect k) (Finset.Subset.refl _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := oRect k) (Mk := Finset.univ) (Finset.subset_univ _)) $$ Ho; iintro Ho
  rw [wp_ret]; imodintro
  isplitl [Hx]; · iexact Hx
  isplitl [Hw]
  · iexists v, f
    isplitr; · ipureintro; exact hf
    iexact Hw
  rw [← hf]
  iexact Ho

/-! ## The cells' records -/

/-- A device's cells: its barrier (`none`), and its send and receive cells. -/
abbrev CK : Type := Option (Bool × Fin 28)
/-- The semaphore of a cell. -/
abbrev csem : CK → SemLoc sig
  | none => .reg barS
  | some (b, i) => .dma (xsem b i)
/-- The cell on its device. -/
abbrev kcell (x : Dev nD × CK) : GSem nD τ sig := ((x.1 : Thread nD τ), csem x.2)

/-- Every cell of every device is open under its name and at round 0. -/
def records (K : Dev nD × CK → ℕ) : sProp 𝕄 :=
  bigSep Finset.univ fun x => iprop(cellInv ER (rd m ρ) (K x) (kcell x) ∗ reached ER (kcell x) 0)

/-- The records can be used again and again. -/
instance records_persistent (K : Dev nD × CK → ℕ) : BI.Persistent (records m ρ K) := by unfold records; infer_instance

/-- The record of one cell. -/
theorem records_get (K : Dev nD × CK → ℕ) (x : Dev nD × CK) :
    records m ρ K ⊢ iprop(cellInv ER (rd m ρ) (K x) (kcell x) ∗ reached ER (kcell x) 0) := by
  unfold records; exact bigSep_elim (Finset.mem_univ x)

/-! ## Transfers and waits -/

/-- What a device owes, whatever it has waited for. -/
def owing (c : Dev nD) (O : CellTallies nD τ sig Unit) : sProp 𝕄 := iprop(∃ W : Waits sig Unit, owes (c : Thread nD τ) O W)

/-- The right to start transfer `k`: its two duties. -/
def tok (c : Dev nD) (k : ℕ) : sProp 𝕄 :=
  iprop(dutyTok ER (xCell false c (fin k)) 0 false ∗ dutyTok ER (xCell true (dest c (fin k)) (fin k)) 0 false)
/-- Where transfer `k` lands. -/
def room (c : Dev nD) (k : ℕ) : sProp 𝕄 := held (dest c (fin k)) (hi (fin k))
/-- A started transfer's claim on its source. -/
def left (c : Dev nD) (k : ℕ) : sProp 𝕄 := cred (tallyAt (xCell false c (fin k)) () N)
/-- The claim on an incoming transfer, its cell unwaited. -/
def inR (c : Dev nD) (k : ℕ) : sProp 𝕄 := iprop(atPos ER (xCell true c (fin k)) 0 ∅ 0 ∗ cred (tallyAt (xCell true c (fin k)) () N))
/-- Transfer `k`'s send cell, unwaited. -/
def atS (c : Dev nD) (k : ℕ) : sProp 𝕄 := atPos ER (xCell false c (fin k)) 0 ∅ 0
/-- Transfer `k`'s cell at zero. -/
def zero (b : Bool) (c : Dev nD) (k : ℕ) : sProp 𝕄 := semVal (xCell b c (fin k)) 0

/-- `Rounds.wp_send_pointsTo` at transfer `k`, its target named `n`. -/
theorem sendTo_wp (K : Dev nD × CK → ℕ) (c : Dev nD) (k : ℕ) (hk : k < 28) :
    iprop(records m ρ K ∗ full c (slot k) (val m ρ k c) ∗ room c k ∗ tok c k ∗ owing c (owed c k))
      ⊢ WP c (sendTo c (fin k)) (fun _ => iprop(owing c (owed c (k + 1)) ∗ left (F := F) c k)) := by
  unfold sendTo WP
  simp only [Prog.lift, Prog.bind_op, Prog.bind_ret, Prog.pure_eq_ret]
  rw [← lo_fin hk]
  unfold room tok owing full held full owns left
  iintro ⟨#Hr, ⟨%fs, %hfs, Hs⟩, ⟨%vd, %fd, %hfd, Hd⟩, ⟨HtS, HtR⟩, ⟨%W, HO⟩⟩
  ihave H1 := (records_get m ρ K (c, some (false, fin k))) $$ Hr
  icases H1 with ⟨#HI1, #Hr1⟩
  ihave H2 := (records_get m ρ K (dest c (fin k), some (true, fin k))) $$ Hr
  icases H2 with ⟨#HI2, #Hr2⟩
  iapply (Rounds.wp_send_pointsTo 𝒱₀ ER (rd m ρ) (c : Thread nD τ) none (c' := ((dest c (fin k) : Dev nD) : Thread nD τ))
      (sS := .dma (xsem false (fin k))) (sem := .dma (xsem true (fin k))) (src := slotM (lo (fin k))) (dst := slotM (hi (fin k)))
      (κ₁ := K (c, some (false, fin k))) (κ₂ := K (dest c (fin k), some (true, fin k)))
      (r₁ := 0) (r₂ := 0) (d₁ := false) (d₂ := false) (fs := fs) (fd := fd)
      (by rw [duties_x]; exact Finset.mem_singleton_self _) (by rw [duties_x]; exact Finset.mem_singleton_self _)
      () () N (credit_eq (hi (fin k))) (amount_x m ρ c false (fin k) false) (amount_x m ρ (dest c (fin k)) true (fin k) false)
      (owed c (k + 1)) (owed_step c k hk) (W := W)
      (by
        rw [payload_send]; unfold sendPay held full owns
        iintro H; iexists (val m ρ k c), fs
        isplitr; · ipureintro; exact hfs
        iexact H)
      (by
        rw [payload_recv]; unfold recvPay full owns
        iintro H; iexists ((slotM (hi (fin k))).view.write (Elt F) fd ((slotM (lo (fin k))).view.read (Elt F) fs) Finset.univ)
        isplitr
        · ipureintro
          rw [View.read_write_univ, hfs]
          show val m ρ k c = val m ρ (fin k).val (origB (rgt (fin k).val) (destB (rgt (fin k).val) c))
          rw [orig_dest, fin_val hk]
        iexact H)) $$ [Hs Hd HtS HtR HO]
  · isplitr; · iexact HI1
    isplitr; · iexact HI2
    isplitl [Hs]; · iexact Hs
    isplitl [Hd]; · iexact Hd
    isplitl [HO]; · iexact HO
    isplitl [HtS]; · iexact HtS
    isplitr; · iexact Hr1
    isplitl [HtR]; · iexact HtR
    iexact Hr2
  iintro ⟨Hc, HO⟩
  rw [wp_ret]; imodintro
  isplitl [HO]; · iexists W; iexact HO
  iexact Hc

/-- A wait on a transfer's cell takes one transfer's credit. -/
theorem wait_clause (c : Dev nD) (b : Bool) (i : Fin 28) (k k' : Fin 32) (h : (slotM k).view.WordExact) (h' : (slotM k').view.WordExact)
    (R : PUnit → sProp 𝕄) :
    wpE (defs₀ (F := F)) 𝒱₀ (c : Thread nD τ) none Set.univ (.waitDma2 (xsem b i) (slotM k) (slotM k') h h') R
      = waitSpec (c : Thread nD τ) Set.univ (.dma (xsem b i)) N R := by
  rw [wpE_waitDma2_eq, credit_eq]

/-- Waiting for an arrival: the slot comes filled, and the cell is at zero. -/
theorem waitRecv_wp (K : Dev nD × CK → ℕ) (c : Dev nD) (k n : ℕ) (hk : k < 28) (hn : n = k + 4 ∨ n = 28) :
    iprop(records m ρ K ∗ levAts L lv ∗ inR c k ∗ owing c (owed c n))
      ⊢ WP c (waitRecv (fin k)) (fun _ => iprop(owing c (owed c n) ∗ full c (slot (k + 4)) (val m ρ k (orig c k)) ∗ zero (F := F) true c k)) := by
  unfold waitRecv WP
  simp only [Prog.lift, Prog.bind_op, Prog.bind_ret, Prog.pure_eq_ret]
  unfold inR owing zero
  iintro ⟨#Hr, #Hlev, ⟨Hat, Hc⟩, ⟨%W, HO⟩⟩
  ihave H1 := (records_get m ρ K (c, some (true, fin k))) $$ Hr
  icases H1 with ⟨#HI1, -⟩
  iapply (Rounds.wp_wait_rest_token 𝒱₀ ER (rd m ρ) (c : Thread nD τ) none (k' := N) (κ := K (c, some (true, fin k)))
      (wait_clause c true (fin k) (lo (fin k)) (hi (fin k)) ((View.wordExact_bits rfl).reshape _ _) ((View.wordExact_bits rfl).reshape _ _)) (Set.mem_univ _) () (O := owed c n) (W := W) (R := 0) (m := 0) (T := ∅)
      (by rw [Nat.zero_add, expect_x])) $$ [Hc HO Hat]
  · isplitr; · iexact HI1
    isplitl [Hc]; · iexact Hc
    isplitl [HO]; · iexact HO
    isplitr
    · iapply (mayWait_owed c n _ (k / 4 + 2) (by rw [lv_recv, fin_val hk]) (fun k' h1 h2 => by omega)); iexact Hlev
    iexact Hat
  iintro ⟨HO, Hat, -, Hpay⟩
  ihave Hp := (Entails.of_eq (rest_recv m ρ c (fin k))) $$ Hpay
  imod (Rounds.cell_close ER (rd m ρ) (Set.mem_univ (K (c, some (true, fin k)))) (fun h => h) (R := 0 + 1) (duties_later m ρ (xCell true c (fin k)))) $$ [Hat] with Hz
  · isplitr; · iexact HI1
    iexact Hat
  rw [wp_ret]; imodintro
  isplitl [HO]; · iexists _; iexact HO
  isplitl [Hp]
  · unfold recvPay; rw [hi_fin hk, fin_val hk]; iexact Hp
  iexact Hz

/-- Waiting for a transfer to have left: its source comes back, and the cell is at zero. -/
theorem waitSend_wp (K : Dev nD × CK → ℕ) (c : Dev nD) (k : ℕ) (hk : k < 28) :
    iprop(records m ρ K ∗ (left c k ∗ atS c k) ∗ owing c 0)
      ⊢ WP c (waitSend (fin k)) (fun _ => iprop(owing c 0 ∗ held c (slot k) ∗ zero (F := F) false c k)) := by
  unfold waitSend WP
  simp only [Prog.lift, Prog.bind_op, Prog.bind_ret, Prog.pure_eq_ret]
  unfold left atS owing zero
  iintro ⟨#Hr, ⟨Hc, Hat⟩, ⟨%W, HO⟩⟩
  ihave H1 := (records_get m ρ K (c, some (false, fin k))) $$ Hr
  icases H1 with ⟨#HI1, -⟩
  iapply (Rounds.wp_wait_rest_token 𝒱₀ ER (rd m ρ) (c : Thread nD τ) none (k' := N) (κ := K (c, some (false, fin k)))
      (wait_clause c false (fin k) (hi (fin k)) (lo (fin k)) ((View.wordExact_bits rfl).reshape _ _) ((View.wordExact_bits rfl).reshape _ _)) (Set.mem_univ _) () (O := 0) (W := W) (R := 0) (m := 0) (T := ∅)
      (by rw [Nat.zero_add, expect_x])) $$ [Hc HO Hat]
  · isplitr; · iexact HI1
    isplitl [Hc]; · iexact Hc
    isplitl [HO]; · iexact HO
    isplitr; · rw [MayWait_zero]; iempintro
    iexact Hat
  iintro ⟨HO, Hat, -, Hpay⟩
  ihave Hp := (Entails.of_eq (rest_send m ρ c (fin k))) $$ Hpay
  imod (Rounds.cell_close ER (rd m ρ) (Set.mem_univ (K (c, some (false, fin k)))) (fun h => h) (R := 0 + 1) (duties_later m ρ (xCell false c (fin k)))) $$ [Hat] with Hz
  · isplitr; · iexact HI1
    iexact Hat
  rw [wp_ret]; imodintro
  isplitl [HO]; · iexists _; iexact HO
  isplitl [Hp]
  · unfold sendPay; rw [lo_fin hk]; iexact Hp
  iexact Hz

end Cert.KernelIdeal.Ring
-- ==== Proof.KernelIdeal.Slots.lean ====
/-
# The slots' and the output's geometry

The sixteen slots of a buffer are disjoint and make up the buffer; the four row blocks of the output are disjoint and make
up the output.
-/
module

public import proofs.«01_k».proof.Proof.KernelIdeal.Pieces
public import Idealize.ShloMosaic.Lib.ViewIndex

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## A buffer's slots -/

/-- A slot's elements are those of its stage and tile. -/
theorem mem_part (t : Fin 16) (i : S8x2x128x512.Idx) : i ∈ (partRect t).set ↔ (i 0).val = t.val / 2 ∧ (i 1).val = t.val % 2 := by
  rw [Rect.mem_set_unit]
  constructor
  · intro h
    have h0 := h 0
    have h1 := h 1
    change t.val / 2 ≤ (i 0).val ∧ (i 0).val < t.val / 2 + 1 at h0
    change t.val % 2 ≤ (i 1).val ∧ (i 1).val < t.val % 2 + 1 at h1
    omega
  · rintro ⟨h0, h1⟩ a
    fin_cases a
    · show t.val / 2 ≤ (i 0).val ∧ (i 0).val < t.val / 2 + 1
      omega
    · show t.val % 2 ≤ (i 1).val ∧ (i 1).val < t.val % 2 + 1
      omega
    · exact ⟨Nat.zero_le _, (Nat.zero_add 128).symm ▸ (i 2).isLt⟩
    · exact ⟨Nat.zero_le _, (Nat.zero_add 512).symm ▸ (i 3).isLt⟩

/-- Different slots have disjoint boxes. -/
theorem part_rects_disjoint {t t' : Fin 16} (h : t ≠ t') : Disjoint (partRect t).set (partRect t').set := by
  rw [Finset.disjoint_left]
  intro i hi hi'
  rw [mem_part] at hi hi'
  exact h (Fin.ext (by omega))

/-- A slot's elements. -/
theorem part_set (b : Bool) (t : Fin 16) : (partM b t).view.set = ((commM b).view.slice (partRect t)).set := View.set_reshape _ _

/-- Different slots share no element. -/
theorem parts_disjoint (b : Bool) {t t' : Fin 16} (h : t ≠ t') : Disjoint (partM b t).view.set (partM b t').view.set := by
  rw [part_set, part_set]
  rw [View.set_slice, View.set_slice]
  exact (Finset.disjoint_map _).mpr (part_rects_disjoint h)

/-- The sixteen slots cover the buffer. -/
theorem parts_cover (b : Bool) : Finset.univ.biUnion (fun t : Fin 16 => ((commM b).view.slice (partRect t)).set) = (commM b).view.set := by
  ext i
  rw [Finset.mem_biUnion]
  constructor
  · rintro ⟨t, -, h⟩
    exact View.set_slice_subset _ _ h
  · intro h
    obtain ⟨x, -, rfl⟩ := Finset.mem_map.mp h
    refine ⟨⟨2 * (x 0).val + (x 1).val, ?_⟩, Finset.mem_univ _, ?_⟩
    · have h0 : (x 0).val < 8 := (x 0).isLt
      have h1 : (x 1).val < 2 := (x 1).isLt
      omega
    · rw [View.set_slice]
      have h1 : (x 1).val < 2 := (x 1).isLt
      exact (View.mem_setOn _).mpr ((mem_part _ _).mpr ⟨by show _ = (2 * (x 0).val + (x 1).val) / 2; omega, by show _ = (2 * (x 0).val + (x 1).val) % 2; omega⟩)

/-! ## The output's row blocks -/

/-- A row block holds its 128 rows. -/
theorem mem_orows (k : Fin 32) (i : S512x512.Idx) : i ∈ (oRect k).set ↔ orow k ≤ (i 0).val ∧ (i 0).val < orow k + 128 := by
  rw [Rect.mem_set_unit]
  constructor
  · exact fun h => h 0
  · intro h a
    fin_cases a
    · exact h
    · exact ⟨Nat.zero_le _, (Nat.zero_add 512).symm ▸ (i 1).isLt⟩

/-- Row blocks that begin at different rows are disjoint. -/
theorem orows_disjoint {k k' : Fin 32} (h : orow k ≠ orow k') : Disjoint (oRect k).set (oRect k').set := by
  rw [Finset.disjoint_left]
  intro i hi hi'
  rw [mem_orows] at hi hi'
  unfold orow at *
  omega

/-- The slot whose rows of the output a row is in. -/
def rowSlot (r : ℕ) : ℕ := 28 + (if r / 128 = 0 then 0 else if r / 128 = 1 then 2 else if r / 128 = 2 then 1 else 3)

/-- It is a slot of the last stage. -/
theorem rowSlot_range (r : ℕ) : 28 ≤ rowSlot r ∧ rowSlot r < 32 := by unfold rowSlot; split_ifs <;> omega
/-- Its row block begins at the nearest multiple of 128. -/
theorem orow_rowSlot {r : ℕ} (h : r < 512) : orow (slot (rowSlot r)) = r / 128 * 128 := by
  unfold orow rowSlot
  rw [slot_val (by split_ifs <;> omega)]
  split_ifs <;> omega
/-- The rows of a slot's row block belong to that slot. -/
theorem rowSlot_orow {k : ℕ} (h1 : 28 ≤ k) (h2 : k < 32) (x : ℕ) (hx : x < 128) : rowSlot (orow (slot k) + x) = k := by
  unfold orow rowSlot
  rw [slot_val h2]
  split_ifs <;> omega

/-- An index of the output inside its row block. -/
def inBlock (i : S512x512.Idx) : S128x512.Idx := fun a =>
  ⟨(![(i 0).val % 128, (i 1).val] : Fin 2 → ℕ) a, by
    have h1 : (i 1).val < 512 := (i 1).isLt
    fin_cases a
    · exact Nat.mod_lt _ (by decide)
    · exact h1⟩

/-- The result on device `c`: each row block is the last stage's sum in the slot it is written from. -/
def outAt (c : Dev nD) : (cc0_stg1_0 : Ref sig .tc).ty.Contents (Elt F) :=
  fun (i : S512x512.Idx) => val m ρ (rowSlot (i 0).val) c (inBlock i)

/-- The output holds the rows of the slots up to `k + 4`. -/
def rowsDone (c : Dev nD) (k : ℕ) (f : (cc0_stg1_0 : Ref sig .tc).ty.Contents (Elt F)) : Prop :=
  ∀ i : S512x512.Idx, rowSlot (i 0).val < k + 4 → f i = outAt m ρ c i

/-- At first no rows need be there. -/
theorem rows_none (c : Dev nD) (f : (cc0_stg1_0 : Ref sig .tc).ty.Contents (Elt F)) : rowsDone m ρ c 24 f := by
  intro i h
  have := rowSlot_range (i 0).val
  omega
/-- In the end all are. -/
theorem rows_all (c : Dev nD) (f : (cc0_stg1_0 : Ref sig .tc).ty.Contents (Elt F)) (h : rowsDone m ρ c 28 f) : f = outAt m ρ c :=
  funext fun i => h i (rowSlot_range (i 0).val).2

/-- One more slot's rows written. -/
theorem rows_next (c : Dev nD) (k : ℕ) (h1 : 24 ≤ k) (h2 : k < 28) (f : (cc0_stg1_0 : Ref sig .tc).ty.Contents (Elt F)) (h : rowsDone m ρ c k f) :
    rowsDone m ρ c (k + 1) (((oM : Memref sig .tc .vmem S512x512 .f32).access (oRect (slot (k + 4)))).write (Elt F) f (val m ρ (k + 4) c) Finset.univ) := by
  intro i hi
  have hr : (i 0).val < 512 := (i 0).isLt
  by_cases hk : rowSlot (i 0).val = k + 4
  · have ho := orow_rowSlot hr
    rw [hk] at ho
    have hm : inBlock i ∈ (Finset.univ : Finset S128x512.Idx) := Finset.mem_univ _
    have he : ((oM : Memref sig .tc .vmem S512x512 .f32).access (oRect (slot (k + 4)))).emb (inBlock i) = i := by
      funext a
      fin_cases a
      · refine Fin.ext ?_
        show orow (slot (k + 4)) + 1 * ((i 0).val % 128) = (i 0).val
        rw [ho]; omega
      · refine Fin.ext ?_
        show 0 + 1 * (i 1).val = (i 1).val
        omega
    have hw := View.write_emb_of_mem (v := (oM : Memref sig .tc .vmem S512x512 .f32).access (oRect (slot (k + 4)))) (Val := Elt F) f (val m ρ (k + 4) c) hm
    rw [he] at hw
    refine hw.trans ?_
    unfold outAt
    rw [hk]
    rfl
  · rw [View.write_of_not_mem]
    · exact h i (by omega)
    · intro hmem
      have hmem' : i ∈ (oRect (slot (k + 4))).set := by
        have := View.set_slice_whole (cc0_stg1_0 : Ref sig .tc) (oRect (slot (k + 4)))
        rw [← this]; exact hmem
      rw [mem_orows] at hmem'
      have := rowSlot_orow (k := k + 4) (by omega) (by omega) ((i 0).val - orow (slot (k + 4))) (by omega)
      rw [Nat.add_sub_cancel' hmem'.1] at this
      exact hk this

end Cert.KernelIdeal.Ring
-- ==== Proof.KernelIdeal.Body.lean ====
/-
# The body, phase by phase

Each loop of the program keeps a state in which the transfers already started, received or waited for are counted off a run of
numbers. The body goes through the phases: handshake, first fills and sends, middle steps, last steps, final waits.
-/
module

public import proofs.«01_k».proof.Proof.KernelIdeal.Slots
public import Idealize.SL.BI.BigOpNat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What is held for each number `a ≤ k < b`. -/
abbrev seg (a b : ℕ) (Φ : ℕ → sProp 𝕄) : sProp 𝕄 := bigSep (Finset.Ico a b) Φ

/-- The first number taken out. -/
theorem seg_take {a b : ℕ} (h : a < b) (Φ : ℕ → sProp 𝕄) : seg a b Φ = iprop(Φ a ∗ seg (a + 1) b Φ) := bigSep_Ico_succ_bot h Φ
/-- One more number put on at the end. -/
theorem seg_put {a b : ℕ} (h : a ≤ b) (Φ : ℕ → sProp 𝕄) : seg a (b + 1) Φ = iprop(Φ b ∗ seg a b Φ) := bigSep_Ico_succ_top h Φ
/-- Nothing is held for no number. -/
theorem seg_none (a : ℕ) (Φ : ℕ → sProp 𝕄) : seg a a Φ = iprop(emp) := by
  show bigSep (Finset.Ico a a) Φ = _
  rw [Finset.Ico_self, bigSep_empty]; rfl
/-- Two adjoining runs make one. -/
theorem seg_join {a b d : ℕ} (h : a ≤ b) (h' : b ≤ d) (Φ : ℕ → sProp 𝕄) : seg a d Φ = iprop(seg a b Φ ∗ seg b d Φ) := by
  have hd : Disjoint (Finset.Ico a b) (Finset.Ico b d) := Finset.disjoint_left.mpr fun k hk hk' => by
    rw [Finset.mem_Ico] at hk hk'; omega
  have hu : Finset.Ico a d = Finset.Ico a b ∪ Finset.Ico b d := by
    ext k; rw [Finset.mem_union, Finset.mem_Ico, Finset.mem_Ico, Finset.mem_Ico]; omega
  show bigSep (Finset.Ico a d) Φ = _
  rw [hu, bigSep_union hd]; rfl
/-- A run that starts at `j`, counted from zero. -/
theorem seg_shift (n j : ℕ) (Φ : ℕ → sProp 𝕄) : seg j (n + j) Φ = seg 0 n (fun k => Φ (k + j)) := by
  have h : Finset.Ico j (n + j) = (Finset.Ico 0 n).map (addRightEmbedding j) := by
    ext k
    rw [Finset.mem_Ico, Finset.mem_map]
    constructor
    · rintro ⟨h1, h2⟩
      exact ⟨k - j, Finset.mem_Ico.mpr ⟨Nat.zero_le _, by omega⟩, Nat.sub_add_cancel h1⟩
    · rintro ⟨i, hi, rfl⟩
      have := (Finset.mem_Ico.mp hi).2
      exact ⟨Nat.le_add_left _ _, Nat.add_lt_add_right this _⟩
  show bigSep (Finset.Ico j (n + j)) Φ = _
  rw [h, bigSep_map]; rfl

/-- A run from zero, over the numbers as a finite type. -/
theorem seg_fin (n : ℕ) (Φ : ℕ → sProp 𝕄) : seg 0 n Φ = bigSep Finset.univ fun i : Fin n => Φ i.val := by
  have h : Finset.Ico 0 n = (Finset.univ : Finset (Fin n)).map Fin.valEmbedding := by
    ext k
    rw [Finset.mem_Ico, Finset.mem_map]
    constructor
    · rintro ⟨-, hk⟩; exact ⟨⟨k, hk⟩, Finset.mem_univ _, rfl⟩
    · rintro ⟨i, -, rfl⟩; exact ⟨Nat.zero_le _, i.isLt⟩
  show bigSep (Finset.Ico 0 n) Φ = _
  rw [h, bigSep_map]; rfl

/-- The transfer with the number of `i` is `i`. -/
theorem fin_self (i : Fin 28) : fin i.val = i := Fin.ext (Nat.mod_eq_of_lt i.isLt)
/-- The slot with the number of `k` is `k`. -/
theorem slot_self (k : Fin 32) : slot k.val = k := Fin.ext (Nat.mod_eq_of_lt k.isLt)

section Body

variable (K : Dev nD × CK → ℕ) (c : Dev nD)

/-- The facts every phase uses. -/
def facts : sProp 𝕄 := iprop(records m ρ K ∗ levAts L lv)
/-- They can be used again and again. -/
instance facts_persistent : BI.Persistent (facts m ρ K) := by unfold facts; infer_instance

/-! ## The phases -/

/-- Filling and sending the first two pairs: `n` pairs are gone. -/
def StA (n : ℕ) : sProp 𝕄 :=
  iprop(facts m ρ K ∗ owing c (owed c (2 * n)) ∗ xPts m ρ c ∗ seg (2 * n) 4 (fun k => held c (slot k))
    ∗ seg (2 * n) 28 (room c) ∗ seg (2 * n) 28 (tok c) ∗ seg 0 (2 * n) (left c))

/-- Filling and sending one pair keeps the first invariant. -/
theorem fillPair_wp (n : ℕ) (hn : n < 2) : StA m ρ K c n ⊢ WP c (fillPair c n) (fun _ => StA m ρ K c (n + 1)) := by
  unfold StA fillPair
  rw [lo_fin (show 2 * n < 28 by omega), lo_fin (show 2 * n + 1 < 28 by omega), show 2 * (n + 1) = 2 * n + 1 + 1 by omega,
    seg_take (show 2 * n < 4 by omega), seg_take (show 2 * n + 1 < 4 by omega), seg_take (show 2 * n < 28 by omega) (room c),
    seg_take (show 2 * n + 1 < 28 by omega) (room c), seg_take (show 2 * n < 28 by omega) (tok c), seg_take (show 2 * n + 1 < 28 by omega) (tok c),
    seg_put (show 0 ≤ 2 * n + 1 by omega), seg_put (show 0 ≤ 2 * n by omega)]
  iintro ⟨#Hf, HO, Hx, ⟨Hh0, Hh1, Hh⟩, ⟨Hr0, Hr1, Hr⟩, ⟨Ht0, Ht1, Ht⟩, Hl⟩
  unfold facts
  icases Hf with ⟨#Hrec, #Hlev⟩
  iapply (wp_then (storeInit_wp m ρ c (slot (2 * n)))) $$ [Hx Hh0]
  · isplitl [Hx] <;> iassumption
  iintro ⟨Hx, Hh0⟩
  iapply (wp_then (storeInit_wp m ρ c (slot (2 * n + 1)))) $$ [Hx Hh1]
  · isplitl [Hx] <;> iassumption
  iintro ⟨Hx, Hh1⟩
  rw [← val_first m ρ c (2 * n) (by omega), ← val_first m ρ c (2 * n + 1) (by omega)]
  iapply (wp_then (sendTo_wp m ρ K c (2 * n) (by omega))) $$ [Hh0 Hr0 Ht0 HO]
  · isplitr; · iexact Hrec
    isplitl [Hh0]; · iexact Hh0
    isplitl [Hr0]; · iexact Hr0
    isplitl [Ht0] <;> iassumption
  iintro ⟨HO, Hl0⟩
  ihave Hw := (sendTo_wp m ρ K c (2 * n + 1) (by omega)) $$ [Hh1 Hr1 Ht1 HO]
  · isplitr; · iexact Hrec
    isplitl [Hh1]; · iexact Hh1
    isplitl [Hr1]; · iexact Hr1
    isplitl [Ht1] <;> iassumption
  iapply (wp_wand _ _ _) $$ Hw
  iintro %a ⟨HO, Hl1⟩
  isplitr
  · isplitr; · iexact Hrec
    iexact Hlev
  isplitl [HO]; · iexact HO
  isplitl [Hx]; · iexact Hx
  isplitl [Hh]; · iexact Hh
  isplitl [Hr]; · iexact Hr
  isplitl [Ht]; · iexact Ht
  isplitl [Hl1]; · iexact Hl1
  isplitl [Hl0] <;> iassumption

/-- The middle steps: `k` arrivals are in, `k + 4` transfers are out. -/
def StB (k : ℕ) : sProp 𝕄 :=
  iprop(facts m ρ K ∗ owing c (owed c (k + 4)) ∗ xPts m ρ c
    ∗ seg (k + 4) 28 (room c) ∗ seg (k + 4) 28 (tok c) ∗ seg 0 (k + 4) (left c) ∗ seg k 28 (inR c) ∗ seg 0 k (zero true c))

/-- A middle step keeps the second. -/
theorem passOn_wp (k : ℕ) (hk : k < 24) : StB m ρ K c k ⊢ WP c (passOn c k) (fun _ => StB m ρ K c (k + 1)) := by
  unfold StB passOn
  rw [hi_fin (show k < 28 by omega), show k + 1 + 4 = k + 4 + 1 by omega,
    seg_take (show k + 4 < 28 by omega) (room c), seg_take (show k + 4 < 28 by omega) (tok c), seg_take (show k < 28 by omega) (inR c),
    seg_put (show 0 ≤ k + 4 by omega), seg_put (show 0 ≤ k by omega)]
  iintro ⟨#Hf, HO, Hx, ⟨Hr0, Hr⟩, ⟨Ht0, Ht⟩, Hl, ⟨Hi0, Hi⟩, Hz⟩
  unfold facts
  icases Hf with ⟨#Hrec, #Hlev⟩
  iapply (wp_then (waitRecv_wp m ρ K c k (k + 4) (by omega) (Or.inl rfl))) $$ [HO Hi0]
  · isplitr; · iexact Hrec
    isplitr; · iexact Hlev
    isplitl [Hi0] <;> iassumption
  iintro ⟨HO, Hh, Hz0⟩
  iapply (wp_then (addTo_wp m ρ c (slot (k + 4)) _)) $$ [Hx Hh]
  · isplitl [Hx] <;> iassumption
  rw [← val_next m ρ c k (by omega)]
  iintro ⟨Hx, Hh⟩
  ihave Hw := (sendTo_wp m ρ K c (k + 4) (by omega)) $$ [Hh Hr0 Ht0 HO]
  · isplitr; · iexact Hrec
    isplitl [Hh]; · iexact Hh
    isplitl [Hr0]; · iexact Hr0
    isplitl [Ht0] <;> iassumption
  iapply (wp_wand _ _ _) $$ Hw
  iintro %a ⟨HO, Hl0⟩
  isplitr
  · isplitr; · iexact Hrec
    iexact Hlev
  isplitl [HO]; · iexact HO
  isplitl [Hx]; · iexact Hx
  isplitl [Hr]; · iexact Hr
  isplitl [Ht]; · iexact Ht
  isplitl [Hl0 Hl]; · isplitl [Hl0] <;> iassumption
  isplitl [Hi]; · iexact Hi
  isplitl [Hz0] <;> iassumption

/-- The last steps: the output holds the rows of the arrivals before `k`. -/
def StC (k : ℕ) : sProp 𝕄 :=
  iprop(facts m ρ K ∗ owing c 0 ∗ xPts m ρ c ∗ (∃ f, ⌜rowsDone m ρ c k f⌝ ∗ oPts c f)
    ∗ seg k 28 (inR c) ∗ seg 0 k (zero true c) ∗ seg 28 (k + 4) (fun j => held c (slot j)))

/-- A last step keeps the third. -/
theorem finish_wp (k : ℕ) (hk : 24 ≤ k) (hk' : k < 28) : StC m ρ K c k ⊢ WP c (finish c k) (fun _ => StC m ρ K c (k + 1)) := by
  unfold StC finish
  rw [hi_fin hk', show k + 1 + 4 = k + 4 + 1 by omega, seg_take hk' (inR c), seg_put (show 0 ≤ k by omega), seg_put (show 28 ≤ k + 4 by omega)]
  iintro ⟨#Hf, HO, Hx, ⟨%f, %hf, Ho⟩, ⟨Hi0, Hi⟩, Hz, Hh⟩
  unfold facts
  icases Hf with ⟨#Hrec, #Hlev⟩
  rw [← owed_end c]
  iapply (wp_then (waitRecv_wp m ρ K c k 28 hk' (Or.inr rfl))) $$ [HO Hi0]
  · isplitr; · iexact Hrec
    isplitr; · iexact Hlev
    isplitl [Hi0] <;> iassumption
  iintro ⟨HO, Hh0, Hz0⟩
  ihave Hw := (addOut_wp m ρ c (slot (k + 4)) _ f) $$ [Hx Hh0 Ho]
  · isplitl [Hx]; · iexact Hx
    isplitl [Hh0] <;> iassumption
  rw [← val_next m ρ c k hk']
  iapply (wp_wand _ _ _) $$ Hw
  iintro %a ⟨Hx, Hh0, Ho⟩
  isplitr
  · isplitr; · iexact Hrec
    iexact Hlev
  isplitl [HO]; · iexact HO
  isplitl [Hx]; · iexact Hx
  isplitl [Ho]
  · iexists _
    isplitr; · ipureintro; exact rows_next m ρ c k hk hk' f hf
    iexact Ho
  isplitl [Hi]; · iexact Hi
  isplitl [Hz0 Hz]; · isplitl [Hz0] <;> iassumption
  isplitl [Hh0] <;> iassumption

/-- The final waits: the first `k` transfers have left. -/
def StD (k : ℕ) : sProp 𝕄 :=
  iprop(facts m ρ K ∗ owing c 0 ∗ seg k 28 (left c) ∗ seg k 28 (atS c) ∗ seg 0 k (zero false c) ∗ seg 0 k (fun j => held c (slot j)))

/-- A send wait keeps the fourth. -/
theorem waitAll_wp (k : ℕ) (hk : k < 28) : StD m ρ K c k ⊢ WP c (waitSend (fin k)) (fun _ => StD m ρ K c (k + 1)) := by
  unfold StD
  rw [seg_take hk (left c), seg_take hk (atS c), seg_put (show 0 ≤ k by omega), seg_put (show 0 ≤ k by omega)]
  iintro ⟨#Hf, HO, ⟨Hl0, Hl⟩, ⟨Ha0, Ha⟩, Hz, Hh⟩
  unfold facts
  icases Hf with ⟨#Hrec, #Hlev⟩
  ihave Hw := (waitSend_wp m ρ K c k hk) $$ [HO Hl0 Ha0]
  · isplitr; · iexact Hrec
    isplitl [Hl0 Ha0]; · isplitl [Hl0] <;> iassumption
    iexact HO
  iapply (wp_wand _ _ _) $$ Hw
  iintro %a ⟨HO, Hh0, Hz0⟩
  isplitr
  · isplitr; · iexact Hrec
    iexact Hlev
  isplitl [HO]; · iexact HO
  isplitl [Hl]; · iexact Hl
  isplitl [Ha]; · iexact Ha
  isplitl [Hz0 Hz]; · isplitl [Hz0] <;> iassumption
  isplitl [Hh0] <;> iassumption

/-! ## The handshake's payloads -/

/-- The slots transfers land in, as the two payments of a device: it pays each neighbour with the slots of one ring. -/
theorem landing_split : seg 4 32 (fun k => held (F := F) c (slot k)) = iprop(barPay (origB true c) true ∗ barPay (origB false c) false) := by
  have h : seg 4 32 (fun k => held (F := F) c (slot k)) = bigSep Finset.univ fun i : Fin 28 => held c (hi i) := by
    refine (seg_shift 28 4 _).trans ((seg_fin 28 _).trans (bigSep_congr fun i _ => ?_))
    rw [← hi_fin i.isLt, fin_self]
  rw [h, bigSep_filter_split Finset.univ (fun i : Fin 28 => rgt i = true)]
  unfold barPay
  rw [dest_orig, dest_orig]
  have he : (Finset.univ.filter fun i : Fin 28 => ¬ rgt i = true) = Finset.univ.filter fun i : Fin 28 => rgt i = false :=
    Finset.filter_congr fun i _ => by rw [Bool.not_eq_true]
  rw [he]
  rfl

/-- What a device takes from its barrier: where each of its transfers lands. -/
theorem landing_join : iprop(barPay (F := F) c false ∗ barPay c true) = seg 0 28 (room c) := by
  have h : seg 0 28 (room (F := F) c) = bigSep Finset.univ fun i : Fin 28 => held (dest c i) (hi i) :=
    (seg_fin 28 _).trans (bigSep_congr fun i _ => by unfold room; rw [fin_self])
  rw [h, bigSep_filter_split Finset.univ (fun i : Fin 28 => rgt i = false)]
  unfold barPay
  have he : (Finset.univ.filter fun i : Fin 28 => ¬ rgt i = false) = Finset.univ.filter fun i : Fin 28 => rgt i = true :=
    Finset.filter_congr fun i _ => by rw [Bool.not_eq_false]
  rw [he]
  have h1 (b : Bool) : (bigSep (Finset.univ.filter fun i : Fin 28 => rgt i = b) fun i => held (F := F) (destB b c) (hi i))
      = bigSep (Finset.univ.filter fun i : Fin 28 => rgt i = b) fun i => held (dest c i) (hi i) :=
    bigSep_congr fun i hi => by rw [← (Finset.mem_filter.mp hi).2]
  rw [h1, h1]
  rfl

/-! ## The body -/

/-- What the body starts from. -/
def bodyStart : sProp 𝕄 :=
  iprop(facts m ρ K ∗ atPos ER (barCell c) 0 ∅ 0 ∗ cred (tallyAt (barCell c) () 2)
    ∗ (dutyTok ER (barCell (origB true c)) 0 true ∗ dutyTok ER (barCell (origB false c)) 0 false)
    ∗ seg 0 28 (tok c) ∗ seg 0 28 (inR c) ∗ seg 0 28 (atS c) ∗ seg 0 32 (fun k => held c (slot k)))

/-- What the body leaves besides its staged buffers: its cells at zero and its slots. -/
def bodyDone : sProp 𝕄 :=
  iprop(semVal (barCell c) 0 ∗ seg 0 28 (zero true c) ∗ seg 0 28 (zero false c) ∗ seg 0 32 (fun k => held c (slot k)))

/-- The whole body, from its ghost state, the staged input and any output, to the result. -/
theorem body_wp (f : Buf (Elt F) ((c : Thread nD τ).loc cc0_stg1_0)) :
    iprop(bodyStart m ρ K c ∗ owing c (O₀ c) ∗ xPts m ρ c ∗ oPts c f)
      ⊢ WP c body (fun _ => iprop(bodyDone c ∗ owing c 0 ∗ xPts m ρ c ∗ oPts c (outAt m ρ c))) := by
  unfold body WP bodyStart
  simp only [semSignalWord, semWaitWord, Prog.lift, Prog.bind_op, Prog.bind_ret, Prog.pure_eq_ret, wp_deviceId]
  rw [seg_join (show 0 ≤ 4 by decide) (show 4 ≤ 32 by decide), landing_split]
  unfold owing
  iintro ⟨⟨#Hf, Hat, Hc, ⟨HtT, HtF⟩, Htok, HinR, HatS, Hh, HpT, HpF⟩, ⟨%W, HO⟩, Hx, Ho⟩
  unfold facts
  icases Hf with ⟨#Hrec, #Hlev⟩
  ihave H1 := (records_get m ρ K (origB true c, none)) $$ Hrec
  icases H1 with ⟨#HI1, #Hr1⟩
  ihave H2 := (records_get m ρ K (origB false c, none)) $$ Hrec
  icases H2 with ⟨#HI2, #Hr2⟩
  ihave H3 := (records_get m ρ K (c, none)) $$ Hrec
  icases H3 with ⟨#HI3, -⟩
  simp only [dev1_eq c, dev2_eq c]
  -- the two signals, each with the slots of one ring
  iapply (Rounds.wp_signal 𝒱₀ ER (rd m ρ) (c : Thread nD τ) none (dst := ((origB true c : Dev nD) : Thread nD τ)) (κ := K (origB true c, none))
      (d := true) (by rw [duties_bar]; exact Finset.mem_univ _) ((amount_bar m ρ (origB true c) true).trans (by decide)) () (O₁ c) rfl)
    $$ [HO HtT HpT]
  · isplitr; · iexact HI1
    isplitl [HO]; · iexact HO
    isplitl [HtT]; · iexact HtT
    isplitl [HpT]; · rw [payload_bar]; iexact HpT
    iexact Hr1
  iintro HO
  iapply (Rounds.wp_signal 𝒱₀ ER (rd m ρ) (c : Thread nD τ) none (dst := ((origB false c : Dev nD) : Thread nD τ)) (κ := K (origB false c, none))
      (d := false) (by rw [duties_bar]; exact Finset.mem_univ _) ((amount_bar m ρ (origB false c) false).trans (by decide)) () (owed c 0) rfl)
    $$ [HO HtF HpF]
  · isplitr; · iexact HI2
    isplitl [HO]; · iexact HO
    isplitl [HtF]; · iexact HtF
    isplitl [HpF]; · rw [payload_bar]; iexact HpF
    iexact Hr2
  iintro HO
  -- the wait for both neighbours
  iapply (Rounds.wp_wait_rest_token 𝒱₀ ER (rd m ρ) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iexact HI3
    isplitl [Hc]; · iexact Hc
    isplitl [HO]; · iexact HO
    isplitr
    · iapply (mayWait_owed c 0 (.reg barS) 1 (Nat.le_refl 1) (fun k _ _ => by omega)); iexact Hlev
    iexact Hat
  iintro ⟨HO, Hat, -, Hpay⟩
  ihave Hroom := (Entails.of_eq ((rest_bar m ρ c).trans (landing_join c))) $$ Hpay
  imod (Rounds.cell_close ER (rd m ρ) (Set.mem_univ (K (c, none))) (fun h => h) (R := 0 + 1) (duties_later m ρ (barCell c))) $$ [Hat] with Hz
  · isplitr; · iexact HI3
    iexact Hat
  -- the phases
  iapply (wp_then (wp_runFrom (fillPair c) (StA m ρ K c) 2 (fillPair_wp m ρ K c) 2 0 (by decide))) $$ [HO Hx Hh Hroom Htok]
  · unfold StA facts owing
    isplitr
    · isplitr; · iexact Hrec
      iexact Hlev
    isplitl [HO]; · iexists _; iexact HO
    isplitl [Hx]; · iexact Hx
    isplitl [Hh]; · iexact Hh
    isplitl [Hroom]; · iexact Hroom
    isplitl [Htok]; · iexact Htok
    rw [seg_none]; iempintro
  unfold StA
  iintro ⟨-, HO, Hx, -, Hroom, Htok, Hl⟩
  iapply (wp_then (wp_runFrom (passOn c) (StB m ρ K c) 24 (passOn_wp m ρ K c) 24 0 (by decide))) $$ [HO Hx Hroom Htok Hl HinR]
  · unfold StB facts
    isplitr
    · isplitr; · iexact Hrec
      iexact Hlev
    isplitl [HO]; · iexact HO
    isplitl [Hx]; · iexact Hx
    isplitl [Hroom]; · iexact Hroom
    isplitl [Htok]; · iexact Htok
    isplitl [Hl]; · iexact Hl
    isplitl [HinR]; · iexact HinR
    rw [seg_none]; iempintro
  unfold StB
  iintro ⟨-, HO, Hx, -, -, Hl, HinR, HzR⟩
  have hC : ∀ k, k < 28 → iprop(⌜24 ≤ k⌝ ∗ StC m ρ K c k) ⊢ WP c (finish c k) (fun _ => iprop(⌜24 ≤ k + 1⌝ ∗ StC m ρ K c (k + 1))) := fun k hk => by
    iintro ⟨%h, H⟩
    ihave Hw := (finish_wp m ρ K c k h hk) $$ H
    iapply (wp_wand _ _ _) $$ Hw
    iintro %a H
    isplitr; · ipureintro; omega
    iexact H
  iapply (wp_then (wp_runFrom (finish c) (fun k => iprop(⌜24 ≤ k⌝ ∗ StC m ρ K c k)) 28 hC 4 24 (by decide))) $$ [HO Hx Ho HinR HzR]
  · isplitr; · ipureintro; decide
    unfold StC facts
    isplitr
    · isplitr; · iexact Hrec
      iexact Hlev
    isplitl [HO]; · rw [← owed_end c]; iexact HO
    isplitl [Hx]; · iexact Hx
    isplitl [Ho]
    · iexists f
      isplitr; · ipureintro; exact rows_none m ρ c f
      iexact Ho
    isplitl [HinR]; · iexact HinR
    isplitl [HzR]; · iexact HzR
    rw [seg_none]; iempintro
  unfold StC
  iintro ⟨-, -, HO, Hx, ⟨%g, %hg, Ho⟩, -, HzR, Hh⟩
  have hg' := rows_all m ρ c g hg
  subst hg'
  ihave Hw := (wp_runFrom (fun k => waitSend (F := F) (fin k)) (StD m ρ K c) 28 (waitAll_wp m ρ K c) 28 0 (by decide)) $$ [HO Hl HatS]
  · unfold StD facts
    isplitr
    · isplitr; · iexact Hrec
      iexact Hlev
    isplitl [HO]; · iexact HO
    isplitl [Hl]; · iexact Hl
    isplitl [HatS]; · iexact HatS
    rw [seg_none, seg_none]
    isplitr <;> iempintro
  iapply (wp_wand _ _ _) $$ Hw
  unfold StD
  iintro %a ⟨-, HO, -, -, HzS, Hh'⟩
  unfold bodyDone
  isplitr [HO Hx Ho]
  · isplitl [Hz]; · iexact Hz
    isplitl [HzR]; · iexact HzR
    isplitl [HzS]; · iexact HzS
    rw [seg_join (show 0 ≤ 28 by decide) (show 28 ≤ 32 by decide)]
    isplitl [Hh'] <;> iassumption
  isplitl [HO]; · unfold owing; iexact HO
  isplitl [Hx] <;> iassumption

end Body

end Cert.KernelIdeal.Ring
-- ==== Proof.KernelIdeal.Run.lean ====
/-
# The launch

The scratch buffers cut into slots and put back, the pipeline's proof data with the body's obligation, the ghost state dealt to
the devices, and the run of the whole program.
-/
module

public import proofs.«01_k».proof.Proof.KernelIdeal.Body
public import Idealize.ShloMosaic.Lib.Pipeline.CollectiveSegs
public import Idealize.ShloMosaic.Lib.Pipeline.ValueKit.Geometry

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffers as slots -/

/-- One ring's buffer, whatever it holds. -/
def scr (b : Bool) (c : Dev nD) : sProp 𝕄 :=
  iprop(∃ f : Buf (Elt F) ((commM b).view.loc (c : Thread nD τ)), ((commM b).view.loc (c : Thread nD τ) ↦[(commM b).view.set]{fullShare} f))
/-- One of its slots. -/
def part (b : Bool) (c : Dev nD) (t : Fin 16) : sProp 𝕄 := iprop(∃ v, owns (c : Thread nD τ) (partM b t) fullShare v)

/-- The elements of one slot of a buffer. -/
abbrev partSet (b : Bool) (c : Dev nD) (t : Fin 16) : Finset (Idx ((commM b).view.loc (c : Thread nD τ))) := ((commM b).view.slice (partRect t)).set

/-- Different slots of a buffer share no element. -/
theorem partSet_disjoint (b : Bool) (c : Dev nD) : ∀ t ∈ (Finset.univ : Finset (Fin 16)), ∀ t' ∈ (Finset.univ : Finset (Fin 16)), t ≠ t' →
    Disjoint (partSet b c t) (partSet b c t') := fun t _ t' _ h => by
  have := parts_disjoint b h
  rw [part_set, part_set] at this
  exact this

/-- A slot is its elements of the buffer. -/
theorem part_eq (b : Bool) (c : Dev nD) (t : Fin 16) :
    part (F := F) b c t = iprop(∃ f : Buf (Elt F) ((commM b).view.loc (c : Thread nD τ)), ((commM b).view.loc (c : Thread nD τ) ↦[partSet b c t]{fullShare} f)) := by
  have h : part (F := F) b c t = iprop(∃ f : Buf (Elt F) ((commM b).view.loc (c : Thread nD τ)),
      ((commM b).view.loc (c : Thread nD τ) ↦[((partM b t).view.set : Finset (Idx ((commM b).view.loc (c : Thread nD τ))))]{fullShare} f)) := by
    refine BI.equiv_iff.mp ⟨?_, ?_⟩
    · show part (F := F) b c t ⊢ _
      unfold part owns
      iintro ⟨%v, %f, -, H⟩
      iexists f; iexact H
    · show _ ⊢ part (F := F) b c t
      unfold part owns
      iintro ⟨%f, H⟩
      iexists ((partM b t).view.read (Elt F) f), f
      isplitr; · ipureintro; rfl
      iexact H
  rw [h]
  exact congrArg (fun S : Finset (Idx ((commM b).view.loc (c : Thread nD τ))) => iprop(∃ f : Buf (Elt F) ((commM b).view.loc (c : Thread nD τ)),
    ((commM b).view.loc (c : Thread nD τ) ↦[S]{fullShare} f))) (part_set b t)

/-- A buffer falls into its sixteen slots. -/
theorem scr_split (b : Bool) (c : Dev nD) : scr (F := F) b c ⊢ bigSep Finset.univ (part b c) := by
  unfold scr
  iintro ⟨%f, H⟩
  have h := pointsTo_biUnion (Ix := Unit) (Name := ℕ) (U := UU) (Lvl := ℕ) (q := fullShare) (f := f) (Finset.univ : Finset (Fin 16)) (partSet b c) (partSet_disjoint b c)
  rw [parts_cover b] at h
  ihave H' := (Entails.of_eq h) $$ H
  have h2 : (bigSep Finset.univ fun t => ((commM b).view.loc (c : Thread nD τ) ↦[partSet b c t]{fullShare} f : sProp 𝕄)) ⊢ bigSep Finset.univ (part b c) :=
    bigSep_mono fun t _ => by
      rw [part_eq]
      show (_ : sProp 𝕄) ⊢ _
      iintro H; iexists f; iexact H
  iapply h2 $$ H'

include m in
/-- The sixteen slots make up the buffer. -/
theorem scr_join (b : Bool) (c : Dev nD) : bigSep Finset.univ (part (F := F) b c) ⊢ scr b c := by
  haveI : ∀ t : Fin 16, Nonempty (Buf (Elt F) ((commM b).view.loc (c : Thread nD τ))) := fun _ => ⟨m _⟩
  rw [bigSep_congr (s := Finset.univ) (fun t _ => part_eq (F := F) b c t)]
  iintro H
  ihave H1 := (bigSep_exists_pi Finset.univ (fun (t : Fin 16) (f : Buf (Elt F) ((commM b).view.loc (c : Thread nD τ))) =>
    ((commM b).view.loc (c : Thread nD τ) ↦[partSet b c t]{fullShare} f : sProp 𝕄))) $$ H
  icases H1 with ⟨%fs, H1⟩
  ihave H2 := (pointsTo_biUnion_join (Ix := Unit) (Name := ℕ) (U := UU) (Lvl := ℕ) (Finset.univ : Finset (Fin 16)) (partSet b c) fs (fs 0) (partSet_disjoint b c)) $$ H1
  icases H2 with ⟨%g, -, H2⟩
  rw [parts_cover b]
  unfold scr
  iexists g; iexact H2

/-- The slots numbered through both buffers. -/
def slotEquiv : Fin 32 ≃ Bool × Fin 16 where
  toFun k := (rgt k, half k)
  invFun p := ⟨2 * p.2.val + (if p.1 then 0 else 1), by split <;> omega⟩
  left_inv := by decide
  right_inv := by decide

/-- All 32 slots of a device are the sixteen of each ring's buffer. -/
theorem slots_eq (c : Dev nD) : seg 0 32 (fun k => held (F := F) c (slot k)) = iprop(bigSep Finset.univ (part false c) ∗ bigSep Finset.univ (part true c)) := by
  have h : seg 0 32 (fun k => held (F := F) c (slot k)) = bigSep Finset.univ fun k : Fin 32 => part (slotEquiv k).1 c (slotEquiv k).2 :=
    (seg_fin 32 _).trans (bigSep_congr fun k _ => by rw [slot_self]; rfl)
  rw [h, ← bigSep_univ_equiv slotEquiv (fun p : Bool × Fin 16 => part p.1 c p.2), bigSep_univ_prod,
    bigSep_univ_eq_bigSepL [false, true] (by decide) (by decide), bigSepL_cons_cons, bigSepL_singleton]
  rfl

/-- The launch's scratch memory is the two rings' buffers. -/
theorem scr_rest (c : Dev nD) : (Pipeline.scopedRest (Ix := Unit) (Name := ℕ) (U := UU) (Lvl := ℕ) (Val := Elt F) cfg0.spec c : sProp 𝕄)
    = iprop(scr true c ∗ scr false c) := by
  refine (scopedRest0_eq c).trans ?_
  unfold scr
  rw [show (commM true).view.set = Finset.univ from View.set_whole _, show (commM false).view.set = Finset.univ from View.set_whole _]
  rfl

/-! ## The pipeline's proof data -/

/-- The position at an incoming transfer's cell. -/
def atR (c : Dev nD) (k : ℕ) : sProp 𝕄 := atPos ER (xCell true c (fin k)) 0 ∅ 0
/-- The claim on an incoming transfer. -/
def credR (c : Dev nD) (k : ℕ) : sProp 𝕄 := cred (tallyAt (xCell true c (fin k)) () N)

/-- Positions and claims, apart. -/
theorem inR_eq (c : Dev nD) : seg 0 28 (inR (F := F) c) = iprop(seg 0 28 (atR c) ∗ seg 0 28 (credR c)) := by
  show bigSep (Finset.Ico 0 28) (fun k => iprop(atR c k ∗ credR c k)) = _
  rw [bigSep_sep']

/-- A device's positions and the tokens of the duties it pays. -/
def linear (c : Dev nD) : sProp 𝕄 :=
  iprop(atPos ER (barCell c) 0 ∅ 0 ∗ seg 0 28 (atS c) ∗ seg 0 28 (atR c)
    ∗ (dutyTok ER (barCell (origB true c)) 0 true ∗ dutyTok ER (barCell (origB false c)) 0 false) ∗ seg 0 28 (tok c))

/-- What the global step gives device `c`. -/
def G' (c : Dev nD) : sProp 𝕄 := iprop(∃ K, records m ρ K ∗ linear c)

/-- What device `c`'s body starts from besides its buffers. -/
def start (c : Dev nD) : sProp 𝕄 := iprop(G' m ρ c ∗ levAts L lv ∗ cred (tallyAt (barCell c) () 2) ∗ seg 0 28 (credR c))

/-- What the body starts from. -/
def Φ₀ (c : Dev nD) : sProp 𝕄 := iprop(start m ρ c ∗ scr true c ∗ scr false c)

/-- The arrays at launch, what the body leaves in the staging buffers, and what is held and owed before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => bodyDone c
  q _ := fullShare
  owed t := match t with
    | ⟨0, _⟩ => O₀ c
    | ⟨_ + 1, _⟩ => 0

/-- The input is fetched. -/
theorem fetch_0 (t : Fin cfg0.N) : (cfg0.win (0 : Fin 2)).fetch t = true := by rw [fin_N0 t]; rfl

/-- A staging buffer of device `c` holding `X`, as the pipeline states it: some contents, which are `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The same as ownership of the whole buffer. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  rw [Memref.view_whole]
  simp only [View.read_whole, View.set_whole]

/-- What the pipeline hands the body. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What it wants back. -/
def bodyPost (c : Dev nD) : sProp 𝕄 :=
  iprop(bodyDone c ∗ (dats m ρ 0 c).owesAt () t0_0.succ ∗ stg c cc0_stg0_0 (xstg m ρ c) ∗ stg c cc0_stg1_0 (outAt m ρ c))

set_option maxRecDepth 100000 in
/-- The pipeline's obligation for the body. -/
theorem body_obligation (c : Dev nD) : BodyObligation (dats (F := F) m ρ 0 c) (defs₀ (F := F)) 𝒱₀ () Set.univ := fun t => by
  rw [fin_N0 t]
  rw [bigSep_W0, bigSep_W0]
  simp only [owns_staged]
  show bodyPre m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  rw [body_eq]
  unfold bodyPre Φ₀ start G' linear Dat.owesAt Pipeline.owesWithin
  rw [show (dats m ρ 0 c).owed t0_0.castSucc = O₀ c from rfl]
  iintro ⟨⟨⟨⟨%K, #Hrec, Hat, HatS, HatR, Htk, Htok⟩, #Hlev, Hc, HcR⟩, HsT, HsF⟩, ⟨%W, %hW, HO⟩, ⟨%d0, %g0, %hg0, Hx⟩, ⟨%d1, %g1, %hg1, Hout⟩⟩
  have hx : g0 = xstg m ρ c := by rw [hg0]; unfold Dat.before; rw [if_pos (fetch_0 t0_0)]; rfl
  subst hx
  ihave HpT := (scr_split true c) $$ HsT
  ihave HpF := (scr_split false c) $$ HsF
  ihave Hw := (body_wp m ρ K c g1) $$ [Hat HatS HatR Htk Htok Hc HcR HpT HpF HO Hx Hout]
  · unfold bodyStart facts owing xPts oPts
    rw [inR_eq, slots_eq]
    isplitl [Hat HatS HatR Htk Htok Hc HcR HpT HpF]
    · isplitr
      · isplitr; · iexact Hrec
        iexact Hlev
      isplitl [Hat]; · iexact Hat
      isplitl [Hc]; · iexact Hc
      isplitl [Htk]; · iexact Htk
      isplitl [Htok]; · iexact Htok
      isplitl [HatR HcR]; · isplitl [HatR] <;> iassumption
      isplitl [HatS]; · iexact HatS
      isplitl [HpF] <;> iassumption
    isplitl [HO]; · iexists W; iexact HO
    isplitl [Hx] <;> iassumption
  iapply (wp_wand _ _ _) $$ Hw
  unfold owing xPts oPts
  iintro %a ⟨Hd, ⟨%W', HO⟩, Hx, Ho⟩
  unfold bodyPost Dat.owesAt Pipeline.owesWithin
  rw [show (dats m ρ 0 c).owed t0_0.succ = 0 from rfl]
  isplitl [Hd]; · iexact Hd
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-! ## The ghost state -/

/-- The kernel's own DMA semaphores. -/
abbrev osem (x : Bool × Fin 28) : SemLoc sig := .dma (xsem x.1 x.2)

/-- They differ from one another. -/
theorem osem_inj : Function.Injective osem := fun x y h => by
  have := xsem_inj (SemLoc.dma.inj h)
  exact Prod.ext this.1 this.2

/-- They are all the launch's scoped semaphores. -/
theorem ownSemFacts : Pipeline.OwnSemFacts cfg0.spec osem := ⟨by decide +kernel, osem_inj, by decide +kernel⟩

/-- Every array is held whole. -/
theorem share_eq (c : Dev nD) (w : Fin cfg0.W) : (dats m ρ 0 c).share w = fullShare := by unfold Dat.share; split <;> rfl

/-- A device's cells have different semaphores. -/
theorem csem_inj : Function.Injective csem
  | none, none, _ => rfl
  | none, some _, h => by cases h
  | some _, none, h => by cases h
  | some x, some y, h => congrArg some (osem_inj (a₁ := x) (a₂ := y) h)

/-- All cells differ. -/
theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- All cells of all devices. -/
def ringCells : Finset (GSem nD τ sig) := Finset.univ.map ⟨kcell, kcell_inj⟩

/-- The duty tokens of a device's own cells: its barrier's two, and one for each of its transfer cells. -/
abbrev tokOf (x : Dev nD × (Bool ⊕ (Bool × Fin 28))) : GSem nD τ sig × ℕ × Bool :=
  match x.2 with
  | .inl d => (kcell (x.1, none), 0, d)
  | .inr y => (kcell (x.1, some y), 0, false)

/-- The tokens differ. -/
theorem tokOf_inj : Function.Injective tokOf := by
  rintro ⟨c, k⟩ ⟨c', k'⟩ h
  rcases k with d | y <;> rcases k' with d' | y'
  · have h1 := kcell_inj (congrArg Prod.fst h)
    have h2 : d = d' := congrArg (fun z : GSem nD τ sig × ℕ × Bool => z.2.2) h
    have h3 : c = c' := congrArg Prod.fst h1
    rw [h2, h3]
  · exact absurd (congrArg Prod.snd (kcell_inj (congrArg Prod.fst h))) (fun h => by cases h)
  · exact absurd (congrArg Prod.snd (kcell_inj (congrArg Prod.fst h))) (fun h => by cases h)
  · have h1 := kcell_inj (congrArg Prod.fst h)
    have h3 : c = c' := congrArg Prod.fst h1
    have h2 : y = y' := Option.some.inj (congrArg Prod.snd h1)
    rw [h2, h3]

/-- All tokens of all devices. -/
def ringToks : Finset (GSem nD τ sig × ℕ × Bool) := Finset.univ.map ⟨tokOf, tokOf_inj⟩

/-- The ghost state at launch: the pipeline's and the rings'. -/
def u₀ : UU :=
  (initOf (Pipeline.cells cfgs cellOf_inj) (Pipeline.launchToks cfgs cellOf_inj), initOf ringCells ringToks)

/-- What is held of each cell of a device: of its barrier, its send cells, its receive cells. -/
theorem bigSep_cells (Φ : CK → sProp 𝕄) : bigSep Finset.univ Φ
    = iprop(Φ none ∗ (bigSep Finset.univ fun i : Fin 28 => Φ (some (false, i))) ∗ (bigSep Finset.univ fun i : Fin 28 => Φ (some (true, i)))) := by
  rw [bigSep_univ_equiv (Equiv.optionEquivSumPUnit.{0} (Bool × Fin 28)).symm Φ, bigSep_univ_sum, bigSep_univ_prod,
    bigSep_univ_eq_bigSepL [false, true] (by decide) (by decide), bigSepL_cons_cons, bigSepL_singleton, bigSep_univ_of_subsingleton PUnit.unit]
  exact BI.equiv_iff.mp ⟨BI.sep_comm, BI.sep_comm⟩

/-- The tokens of device `c`'s own cells. -/
def toks (c : Dev nD) : sProp 𝕄 :=
  iprop((dutyTok ER (barCell c) 0 false ∗ dutyTok ER (barCell c) 0 true)
    ∗ (bigSep Finset.univ fun i : Fin 28 => dutyTok ER (xCell false c i) 0 false) ∗ (bigSep Finset.univ fun i : Fin 28 => dutyTok ER (xCell true c i) 0 false))

/-- What the launch deals device `c`. -/
def G (c : Dev nD) : sProp 𝕄 :=
  iprop((bigSep Finset.univ fun k : CK => roundState ER (rd m ρ) (kcell (c, k)) 0)
    ∗ (bigSep Finset.univ fun k : CK => iprop(atPos ER (kcell (c, k)) 0 ∅ 0 ∗ reached ER (kcell (c, k)) 0)) ∗ toks c)

/-- The rings' ghost state funds what the launch deals the devices. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_prod]
    unfold toks
    rw [bigSep_univ_eq_bigSepL (I := Bool) [false, true] (by decide) (by decide), bigSepL_cons_cons, bigSepL_singleton,
      bigSep_univ_eq_bigSepL (I := Bool) [false, true] (by decide) (by decide), bigSepL_cons_cons, bigSepL_singleton]
    rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores are the transfers'. -/
theorem ownSems0_eq (c : Dev nD) : (Pipeline.ownSems0 (Ix := Unit) (Name := ℕ) (U := UU) (Lvl := ℕ) (Val := Elt F) (τ := τ) osem c : sProp 𝕄)
    = iprop((bigSep Finset.univ fun i : Fin 28 => semVal (xCell false c i) 0) ∗ (bigSep Finset.univ fun i : Fin 28 => semVal (xCell true c i) 0)) := by
  unfold Pipeline.ownSems0
  rw [bigSep_univ_prod, bigSep_univ_eq_bigSepL [false, true] (by decide) (by decide), bigSepL_cons_cons, bigSepL_singleton]
  rfl

/-- The barrier is the one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- All semaphores of a device, at zero, are its cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_cells]
  iintro ⟨⟨HS, HV⟩, HB⟩
  isplitl [HB]; · iexact HB
  isplitl [HS] <;> iassumption

/-- Each device's cells become shared records. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to their payers. -/
theorem toks_around : (bigSep Finset.univ fun c : Dev nD => (toks c : sProp 𝕄))
    ⊢ bigSep Finset.univ fun c : Dev nD => iprop((dutyTok ER (barCell (origB true c)) 0 true ∗ dutyTok ER (barCell (origB false c)) 0 false) ∗ seg 0 28 (tok c)) := by
  have hseg (c : Dev nD) : seg 0 28 (tok (F := F) c) = iprop((bigSep Finset.univ fun i : Fin 28 => dutyTok ER (xCell false c i) 0 false)
      ∗ (bigSep Finset.univ fun i : Fin 28 => dutyTok ER (xCell true (dest c i) i) 0 false)) := by
    rw [← bigSep_sep']
    exact (seg_fin 28 _).trans (bigSep_congr fun i _ => by unfold tok; rw [fin_self])
  have hrecv : (bigSep Finset.univ fun c : Dev nD => bigSep Finset.univ fun i : Fin 28 => (dutyTok ER (xCell true c i) 0 false : sProp 𝕄))
      = bigSep Finset.univ fun c : Dev nD => bigSep Finset.univ fun i : Fin 28 => dutyTok ER (xCell true (dest c i) i) 0 false := by
    rw [bigSep_univ_comm, bigSep_univ_comm (fun (c : Dev nD) (i : Fin 28) => (dutyTok ER (xCell true (dest c i) i) 0 false : sProp 𝕄))]
    exact bigSep_congr fun i _ => bigSep_univ_equiv (ring (rgt i)) (fun c : Dev nD => (dutyTok ER (xCell true c i) 0 false : sProp 𝕄))
  unfold toks
  simp only [hseg]
  rw [bigSep_sep', bigSep_sep', bigSep_sep', bigSep_sep', bigSep_sep', bigSep_sep', hrecv,
    bigSep_univ_equiv (ring false).symm (fun c : Dev nD => (dutyTok ER (barCell c) 0 false : sProp 𝕄)),
    bigSep_univ_equiv (ring true).symm (fun c : Dev nD => (dutyTok ER (barCell c) 0 true : sProp 𝕄))]
  iintro ⟨⟨H1, H2⟩, H3, H4⟩
  isplitl [H1 H2]
  · isplitl [H2]; · iexact H2
    iexact H1
  isplitl [H3] <;> iassumption

/-- The shared records go to every device. -/
theorem records_all (K : Dev nD × CK → ℕ) : iprop(records m ρ K ∗ bigSep Finset.univ linear) ⊢ bigSep Finset.univ (G' m ρ) := by
  have h : bigSep Finset.univ (fun c : Dev nD => iprop(records m ρ K ∗ linear c)) ⊢ bigSep Finset.univ (G' m ρ) :=
    bigSep_mono fun c _ => by
      show iprop(records m ρ K ∗ linear c) ⊢ iprop(∃ K, records m ρ K ∗ linear c)
      iintro H
      iexists K
      iexact H
  rw [bigSep_sep'] at h
  iintro ⟨#HR, HL⟩
  iapply h
  isplitr
  · iapply (BI.bigSep_of_persistent Finset.univ (records m ρ K))
    iexact HR
  iexact HL

/-- The records are shared and the tokens go to the devices that pay them. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  have hat (c : Dev nD) : (bigSep Finset.univ fun k : CK => (atPos ER (kcell (c, k)) 0 ∅ 0 : sProp 𝕄))
      = iprop(atPos ER (barCell c) 0 ∅ 0 ∗ seg 0 28 (atS c) ∗ seg 0 28 (atR c)) := by
    rw [bigSep_cells, seg_fin 28, seg_fin 28]
    unfold atS atR
    simp only [fin_self]
  rw [bigSep_sep', bigSep_sep', ← bigSep_univ_prod (fun ck : Dev nD × CK => iprop(∃ κ : ℕ, cellInv ER (rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  simp only [hat]
  iintro ⟨HI, ⟨Hat, #HR⟩, Htok⟩
  ihave HK := (BI.bigSep_exists_pi Finset.univ (fun (ck : Dev nD × CK) (κ : ℕ) => (cellInv ER (rd m ρ) κ (kcell ck) : sProp 𝕄))) $$ HI
  icases HK with ⟨%K, #HI⟩
  ihave Htk := (toks_around (F := F)) $$ Htok
  iapply (records_all m ρ K)
  isplitr
  · unfold records; rw [bigSep_sep']; isplitl; · iexact HI
    iexact HR
  · unfold linear
    simp only [bigSep_sep']
    icases Hat with ⟨H1, H2, H3⟩
    icases Htk with ⟨⟨H4, H5⟩, H6⟩
    isplitl [H1]; · iexact H1
    isplitl [H2]; · iexact H2
    isplitl [H3]; · iexact H3
    isplitl [H4 H5]; · isplitl [H4] <;> iassumption
    iexact H6

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A barrier cell is no receive cell. -/
theorem bar_ne (a b : Dev nD) (i : Fin 28) : barCell a ≠ xCell true b i := fun h => by
  have := congrArg Prod.snd h
  cases this

/-- Only the neighbour that ring `b` sends to has this barrier among its debts. -/
theorem bar_dest {a d : Dev nD} {b : Bool} (h : barCell a = barCell (origB b d)) : d = destB b a := by
  have h1 : a = origB b d := congrArg (fun g : GSem nD τ sig => g.1.1) h
  rw [h1, dest_orig]

/-- What device `d` owes device `c`'s barrier. -/
theorem owed_bar (d c : Dev nD) : O₀ d (barCell c) () = (if d = destB false c then 1 else 0) + (if d = destB true c then 1 else 0) := by
  have h0 : owed d 0 (barCell c) () = 0 := by
    by_contra hne
    obtain ⟨k, -, -, hg⟩ := owed_pos (Nat.pos_of_ne_zero hne)
    exact bar_ne _ _ _ hg
  have h1 (b : Bool) : (tallyAt (barCell (origB b d)) () 1 : CellTallies nD τ sig Unit) (barCell c) () = if d = destB b c then 1 else 0 := by
    rw [tallyAt_apply]
    by_cases h : d = destB b c
    · subst h; rw [orig_dest, if_pos ⟨rfl, rfl⟩, if_pos rfl]
    · rw [if_neg (fun h' => h (bar_dest h'.1)), if_neg h]
  unfold O₀ O₁
  rw [Pi.add_apply, Finsupp.add_apply, Pi.add_apply, Finsupp.add_apply, h0, h1, h1, Nat.zero_add]

/-- What device `d` owes device `c`'s receive cell of transfer `i`. -/
theorem owed_recv (d c : Dev nD) (i : Fin 28) : O₀ d (xCell true c i) () = if d = orig c i then N else 0 := by
  have h1 (b : Bool) : (tallyAt (barCell (origB b d)) () 1 : CellTallies nD τ sig Unit) (xCell true c i) () = 0 := by
    rw [tallyAt_apply, if_neg (fun h => bar_ne _ _ _ h.1.symm)]
  have h0 : owed d 0 (xCell true c i) () = if d = orig c i then N else 0 := by
    unfold owed
    rw [Finset.sum_apply, Finsupp.finset_sum_apply, Finset.sum_eq_single i.val]
    · rw [tallyAt_apply, fin_self]
      by_cases h : d = orig c i
      · subst h
        show (if xCell true c i = xCell true (destB (rgt i) (origB (rgt i) c)) i ∧ _ then _ else _) = _
        simp only [dest_orig, and_self, if_true]
      · rw [if_neg h, if_neg]
        rintro ⟨h', -⟩
        have h2 : c = dest d i := congrArg (fun g : GSem nD τ sig => g.1.1) h'
        exact h (by rw [h2]; exact (orig_dest _ _).symm)
    · intro k hk hne
      rw [tallyAt_apply, if_neg]
      rintro ⟨h', -⟩
      have h2 := (xsem_inj (SemLoc.dma.inj (congrArg Prod.snd h'))).2
      rw [h2, fin_val (Finset.mem_Ico.mp hk).2] at hne
      exact hne rfl
    · intro h
      exact absurd (Finset.mem_Ico.mpr ⟨Nat.zero_le _, i.isLt⟩) h
  unfold O₀ O₁
  rw [Pi.add_apply, Finsupp.add_apply, Pi.add_apply, Finsupp.add_apply, h0, h1, h1]
  rfl

/-- The launch owes each barrier two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (destB false c) fun _ => 1, Finset.sum_ite_eq' Finset.univ (destB true c) fun _ => 1, if_pos (Finset.mem_univ _), if_pos (Finset.mem_univ _)]

/-- The launch owes each receive cell one transfer's credit. -/
theorem launch_recv (c : Dev nD) (i : Fin 28) :
    tallyOn (xCell true c i) (launchCredit (Pipeline.owing O₀) 0 (xCell true c i)) = (tallyAt (xCell true c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (orig c i) fun _ => N,
    if_pos (Finset.mem_univ _)]

/-- The receive semaphores, as semaphores of the device. -/
def recvSems : Fin 28 ↪ SemLoc sig := ⟨fun i => .dma (xsem true i), fun i j h => (xsem_inj (SemLoc.dma.inj h)).2⟩

/-- The launch's credit for a device: its barrier's and its receive cells'. -/
theorem creds (c : Dev nD) :
    (Pipeline.launchCred O₀ c : sProp 𝕄) ⊢ iprop(cred (tallyAt (barCell c) () 2) ∗ seg 0 28 (credR c)) := by
  have hsub : (Finset.univ : Finset (Fin 28)).map recvSems ⊆ Finset.univ.erase (SemLoc.reg barS : SemLoc sig) := fun s hs => by
    obtain ⟨i, -, rfl⟩ := Finset.mem_map.mp hs
    exact Finset.mem_erase.mpr ⟨fun h => (by cases h), Finset.mem_univ _⟩
  unfold Pipeline.launchCred
  rw [bigSep_univ_at _ (SemLoc.reg barS), launch_bar]
  have h : (bigSep ((Finset.univ : Finset (Fin 28)).map recvSems) fun sm : SemLoc sig =>
      (cred (tallyOn ((c : Thread nD τ), sm) (launchCredit (Pipeline.owing O₀) 0 ((c : Thread nD τ), sm))) : sProp 𝕄)) = seg 0 28 (credR c) := by
    rw [bigSep_map, seg_fin 28]
    refine bigSep_congr fun i _ => ?_
    unfold credR
    rw [fin_self, ← launch_recv]
    rfl
  rw [← h]
  exact sep_mono_right (bigSep_subset hsub)

/-! ## The run -/

/-- What the launch gives, arranged for the body. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    iexact HN
  · iempintro

/-- With the scratch memory, this is what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_rest]
  unfold Φ₀
  iintro ⟨Hs, -, Hr⟩
  isplitl [Hs]; · iexact Hs
  iexact Hr

/-- What the body ends with: every semaphore at zero and the scratch memory whole. -/
theorem phi1_exit (c : Dev nD) :
    (dats m ρ 0 c).Φ (Fin.last cfg0.N) ⊢ iprop(unscopedSems0 c ∗ Pipeline.ownSems0 osem c ∗ Pipeline.scopedRest cfg0.spec c) := by
  have hz (b : Bool) : seg 0 28 (zero (F := F) b c) = bigSep Finset.univ fun i : Fin 28 => semVal (xCell b c i) 0 :=
    (seg_fin 28 _).trans (bigSep_congr fun i _ => by unfold zero; rw [fin_self])
  rw [show (dats m ρ 0 c).Φ (Fin.last cfg0.N) = bodyDone c from rfl, scr_rest, ownSems0_eq, unscopedSems0_eq]
  unfold bodyDone
  rw [hz, hz, slots_eq]
  iintro ⟨HzB, HzV, HzS, HpF, HpT⟩
  ihave HT := (scr_join m true c) $$ HpT
  ihave HF := (scr_join m false c) $$ HpF
  isplitl [HzB]; · iexact HzB
  isplitl [HzS HzV]
  · isplitl [HzS] <;> iassumption
  isplitl [HT] <;> iassumption

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-- A window's array at the end. -/
def finalA (c : Dev nD) (w : Fin cfg0.W) : Buf (Elt F) ((cfg0.win w).arr.view.loc (c : Thread nD τ)) := (dats m ρ 0 c).arrAt w cfg0.N

/-- Every window's array is at its computed contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters, for any float values, every execution of the eight devices ends with each window's array at
    the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

/-- The output array ends as the body left its staging copy. -/
theorem finalA_out (c : Dev nD) : finalA m ρ c (1 : Fin 2) = outAt m ρ c := by
  refine (dats (F := F) m ρ 0 c).arrAt_eq_of_covers (1 : Fin 2) _ (by decide +kernel) fun t _ y => ?_
  rw [fin_N0 t]
  have h : (win0_1.blk (0 : Fin 1)).view.emb y = y := by
    funext a
    refine Fin.ext ?_
    show 0 * S512x512.size a + 1 * (y a).val = (y a).val
    omega
  show outAt m ρ c y = outAt m ρ c ((win0_1.blk (0 : Fin 1)).view.emb y)
  rw [h]

/-- The run with its contents: each device's output ends at `outAt`, its input unchanged, and every counter at zero. -/
theorem run_contents : θ_run defs (onTc (τ := τ) (main (F := F))) ⟨m, fun _ => 0, ρ⟩ (fun r =>
    (∀ c : Dev nD, r.2.mem ((c : Thread nD τ).loc main_v1) = outAt m ρ c ∧ r.2.mem ((c : Thread nD τ).loc main_arg0) = m ((c : Thread nD τ).loc main_arg0))
      ∧ r.2.sem = fun _ => 0) :=
  (θ_run defs _ _).mono (fun r h => ⟨fun c => ⟨(h.1 c (1 : Fin 2)).trans (finalA_out m ρ c), (h.1 c (0 : Fin 2)).trans (finalA_in m ρ c)⟩, h.2⟩) (run_main m ρ)

end Cert.KernelIdeal.Ring
-- ==== Proof.KernelIdeal.Value.lean ====
/-
# The value

What the rings leave in the output, over the reals: at stage `s` of a ring, device `c` holds its own tile plus the tiles of the
`s` devices before it in the ring, all of one column chunk; at the last stage the chunk is `c`'s own and the devices are all
eight.
-/
module

public import proofs.«01_k».proof.Proof.KernelIdeal.Run
public import Idealize.ShloMosaic.Lib.ValueIdx

@[expose] public section

noncomputable section

namespace Cert.KernelIdeal.Ring

open Cert.KernelIdeal Cert.KernelIdeal.Gen
open Idealize.ShloMosaic Idealize.ShloMosaic.TcCoe
open Idealize.SL.Sem
open Idealize.ShloMosaic.ValueIdx

variable {F : FTy → Type} [FloatOps F]

variable (m : (ℓ : Loc nD τ sig) → Buf (Elt F) ℓ) (ρ : Dev nD → PrngReg)

/-- The staged input is the input array. -/
theorem xstg_eq (c : Dev nD) : xstg m ρ c = m ((c : Thread nD τ).loc main_arg0) := by
  funext (i : S1x512x4096.Idx)
  unfold xstg
  rw [View.read_apply]
  have h : (win0_0.blk (0 : Fin 1)).view.emb i = i := by
    funext a
    refine Fin.ext ?_
    show 0 * S1x512x4096.size a + 1 * (i a).val = (i a).val
    omega
  rw [h]
  rfl

/-! ## The tiles -/

/-- The column chunk that device `d` works on at stage `r` of a ring. -/
def chunk (b : Bool) (d : Dev nD) (r : ℕ) : ℕ := if b then (d.val + 15 - r) % 8 else (d.val + 1 + r) % 8
/-- The first row of the tiles of ring and tile `j`. -/
def jrow (j : ℕ) : ℕ := j / 2 % 2 * 128 + j % 2 * 256

/-- Where the block of ring and tile `j` begins: its rows, and its column chunk. -/
theorem xoff_closed : ∀ (d : Dev nD) (r : Fin 8) (j : Fin 4),
    xoffAt d r j.val 0 = 0 ∧ xoffAt d r j.val 1 = jrow j.val ∧ xoffAt d r j.val 2 = 512 * chunk (rgt j.val) d r.val := by decide +kernel

/-- A device works on the chunk that the device before it in the ring worked on a stage ago. -/
theorem chunk_next : ∀ (b : Bool) (c : Dev nD) (s : Fin 7), chunk b (origB b c) s.val = chunk b c (s.val + 1) := by decide +kernel
/-- At the last stage it is the device's own. -/
theorem chunk_last : ∀ (b : Bool) (c : Dev nD), chunk b c 7 = c.val := by decide +kernel
/-- Going back along a ring from a device meets each device once. -/
theorem back_bijective : ∀ (b : Bool) (c : Dev nD), Function.Bijective fun t : Fin 8 => (origB b)^[t.val] c := by decide +kernel

/-- An element of a tile is the input's at the tile's rows and chunk. -/
theorem xtile_apply (c : Dev nD) (r : Fin 8) (j : ℕ) (hj : j < 4) (e : S128x512.Idx) (i : S1x512x4096.Idx)
    (h1 : (i 1).val = jrow j + (e 0).val) (h2 : (i 2).val = 512 * chunk (rgt j) c r.val + (e 1).val) :
    xtile m ρ c r j e = m ((c : Thread nD τ).loc main_arg0) i := by
  obtain ⟨o0, o1, o2⟩ := xoff_closed c r ⟨j, hj⟩
  have h0 : (i 0).val = 0 := by have h : (i 0).val < 1 := (i 0).isLt; omega
  unfold xtile tile
  rw [xstg_eq]
  refine (shapeCast_dropUnit_apply ![128, 512] _ _ e).trans ?_
  rw [View.readAt_rect, View.read_apply]
  refine congrArg (m ((c : Thread nD τ).loc main_arg0)) (funext fun a => Fin.ext ?_)
  fin_cases a
  · show xoffAt c r j 0 + 1 * 0 = (i 0).val
    rw [o0, h0]
  · show xoffAt c r j 1 + 1 * (e 0).val = (i 1).val
    rw [o1, h1, Nat.one_mul]
  · show xoffAt c r j 2 + 1 * (e 1).val = (i 2).val
    rw [o2, h2, Nat.one_mul]

end Cert.KernelIdeal.Ring

namespace Cert.KernelIdeal.Ring

open Cert.KernelIdeal Cert.KernelIdeal.Gen
open Idealize.ShloMosaic Idealize.ShloMosaic.TcCoe

variable (m : (ℓ : Loc nD τ sig) → Buf (Elt Ideal) ℓ) (ρ : Dev nD → PrngReg)

/-- Device `d`'s input at an index. -/
abbrev xin (d : Dev nD) (i : S1x512x4096.Idx) : EReal := m ((d : Thread nD τ).loc main_arg0) i

/-- At stage `s` a device holds the sum of its own tile and those of the `s` devices before it in the ring. -/
theorem acc_apply (j : ℕ) (hj : j < 4) (e : S128x512.Idx) (i : S1x512x4096.Idx) (h1 : (i 1).val = jrow j + (e 0).val) :
    ∀ (s : ℕ) (hs : s < 8) (c : Dev nD), (i 2).val = 512 * chunk (rgt j) c s + (e 1).val →
      acc (F := Ideal) m ρ j s c e = ∑ t ∈ Finset.range (s + 1), xin m ((origB (rgt j))^[t] c) i
  | 0, hs, c, h2 => by
    rw [Finset.sum_range_one]
    exact xtile_apply m ρ c 0 j hj e i h1 h2
  | s + 1, hs, c, h2 => by
    rw [Finset.sum_range_succ']
    have hc := chunk_next (rgt j) c ⟨s, by omega⟩
    have ih := acc_apply j hj e i h1 s (by omega) (origB (rgt j) c) (by rw [hc]; exact h2)
    have hx := xtile_apply m ρ c (Fin.ofNat 8 (s + 1)) j hj e i h1 (by
      rw [h2]; show _ = 512 * chunk (rgt j) c ((s + 1) % 8) + _; rw [Nat.mod_eq_of_lt hs])
    show acc (F := Ideal) m ρ j s (origB (rgt j) c) e + xtile m ρ c (Fin.ofNat 8 (s + 1)) j e = _
    rw [ih, hx]
    rfl

/-- Where element `i` of device `c`'s output lies in the input arrays. -/
def spot (c : Dev nD) (i : S512x512.Idx) : S1x512x4096.Idx := fun a =>
  ⟨(![0, (i 0).val, 512 * c.val + (i 1).val] : Fin 3 → ℕ) a, by
    have h0 : (i 0).val < 512 := (i 0).isLt
    have h1 : (i 1).val < 512 := (i 1).isLt
    have hc : c.val < 8 := c.isLt
    fin_cases a
    · exact Nat.one_pos
    · exact h0
    · show 512 * c.val + (i 1).val < 4096
      omega⟩

/-- The output of device `c` is the sum of all devices' inputs over its chunk of columns. -/
theorem outAt_apply (c : Dev nD) (i : S512x512.Idx) : outAt (F := Ideal) m ρ c i = ∑ d : Dev nD, xin m d (spot c i) := by
  have h0 : (i 0).val < 512 := (i 0).isLt
  obtain ⟨k, hk⟩ : ∃ k, k = rowSlot (i 0).val := ⟨_, rfl⟩
  have hr := rowSlot_range (i 0).val
  have ho := orow_rowSlot h0
  unfold outAt val
  rw [← hk] at hr ho ⊢
  have h7 : k / 4 = 7 := by omega
  have hrow : jrow (k % 4) = (i 0).val / 128 * 128 := by
    rw [← ho]; unfold jrow orow; rw [slot_val hr.2]; omega
  rw [h7, acc_apply m ρ (k % 4) (Nat.mod_lt _ (by decide)) (inBlock i) (spot c i)
    (by rw [hrow]; show (i 0).val = _ + (i 0).val % 128; omega) 7 (by decide) c
    (by rw [chunk_last]; rfl)]
  rw [Finset.sum_range]
  exact (back_bijective (rgt (k % 4)) c).sum_comp fun d => xin m d (spot c i)

end Cert.KernelIdeal.Ring
-- ==== Proof.lean ====
/-
# The claim

The kernel at any float values and its idealization run, end quiescent and leave their arguments alone (the run of the rings with
the contents dropped); over the reals each device's output is its block of columns of the sum over the devices.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Value
public import Idealize.ShloMosaic.Lib.IdealHost
public import Idealize.ShloMosaic.Lib.Pointwise.Reduce
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs at the machine's float values, leaves its argument alone and ends quiescent. -/
theorem kernel_frame : Cert.quiescent_Kernel (hKernel := Cert.Kernel.Gen.facts) := fun m g _ =>
  (θ_run _ _ _).mono (fun _ h => ⟨fun c => (h.1 c).2, h.2⟩) (Cert.Kernel.Ring.run_contents m g)

/-- So does its idealization over the reals. -/
theorem ideal_frame : Cert.quiescent_KernelIdeal (hKernelIdeal := Cert.KernelIdeal.Gen.facts) := fun m g _ =>
  (θ_run _ _ _).mono (fun _ h => ⟨fun c => (h.1 c).2, h.2⟩) (Cert.KernelIdeal.Ring.run_contents m g)

/-- So does the reference, which has no semaphore. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl _⟩) (Cert.ReferenceIdeal.Value.run m g)

/-- The reference's sum at an element: over the reals, in any order. -/
theorem reference_apply (x : FVec Ideal Cert.ReferenceIdeal.S8x512x4096 .f32) (j : Cert.ReferenceIdeal.S512x4096.Idx) :
    Host.reduceAdd x (constant Cert.ReferenceIdeal.S_ .f32 0x00000000#32) Cert.ReferenceIdeal.Gen.reducesTo_S8x512x4096_S512x4096_d0 Cert.ReferenceIdeal.Gen.h_S_ j
      = ∑ d : Fin 8, x (ix3 d (j 0) (j 1)) := by
  rw [ValueIdx.hostReduceAdd_apply, Ideal.hostReduceAdd_r3_a0]
  show Ideal.ofBits .f32 0x00000000#32 + _ = _
  rw [Ideal.ofBits_zero_f32, zero_add]
  rfl

/-- Each device's output is its block of columns of the reference's sum. -/
theorem value : Cert.algebraic_KernelIdeal_ReferenceIdeal (hKernelIdeal := Cert.KernelIdeal.Gen.facts) (hReferenceIdeal := Cert.ReferenceIdeal.Gen.facts) := by
  intro m g m' g' _ hm
  refine ⟨_, (θ_run _ _ _).mono (fun r h c => ⟨(h.1 c).1.trans ?_, (h.1 c).2⟩) (Cert.KernelIdeal.Ring.run_contents m g),
    (θ_run _ _ _).mono (fun r h => ⟨(h 0).1, (h 0).2⟩) (Cert.ReferenceIdeal.Value.run m' g')⟩
  funext i
  rw [Layout.block_apply]
  refine (Cert.KernelIdeal.Ring.outAt_apply m g c i).trans ((reference_apply _ _).trans ?_).symm
  refine Finset.sum_congr rfl fun d _ => ?_
  unfold Cert.KernelIdeal.Ring.xin
  rw [hm d, Layout.block_apply]
  refine congrArg _ (funext fun a => Fin.ext ?_)
  fin_cases a
  · show d.val = d.val * 1 + 0
    omega
  · rfl
  · show c.val * 512 + (i 1).val = 512 * c.val + (i 1).val
    omega

/-- All the claims together. -/
theorem claim : Cert.Claim := ⟨Cert.Kernel.Gen.facts, Cert.KernelIdeal.Gen.facts, Cert.ReferenceIdeal.Gen.facts,
  kernel_frame, ideal_frame, reference_frame, trivial, value⟩

end Cert.Proof

end
